-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_k_KernelIdeal [hPre_finite_x_k_KernelIdeal : Cert.Pre_finite_x_k_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_k_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_k_ReferenceIdeal [hPre_finite_x_k_ReferenceIdeal : Cert.Pre_finite_x_k_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_k_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_k_KernelIdeal [hKernelIdeal : Cert.KernelIdeal.Facts] [hPre_finite_x_k_KernelIdeal : Cert.Pre_finite_x_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_k_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_k_ReferenceIdeal [hReferenceIdeal : Cert.ReferenceIdeal.Facts] [hPre_finite_x_k_ReferenceIdeal : Cert.Pre_finite_x_k_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_k_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_k_KernelIdeal [hKernelIdeal : Cert.KernelIdeal.Facts] [hReferenceIdeal : Cert.ReferenceIdeal.Facts] [hPre_finite_x_k_KernelIdeal : Cert.Pre_finite_x_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_k_KernelIdeal m →
    (∀ c : Dev Cert.KernelIdeal.nD,
      m ((c.tc : Thread Cert.KernelIdeal.nD Cert.KernelIdeal.τ).loc Cert.KernelIdeal.main_arg0) = Layout.blockN ⟨4, ![2, 128, 128, 64]⟩ ⟨4, ![2, 256, 256, 64]⟩ (Layout.meshBlock [2, 2] ![[], [0], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨4, ![2, 128, 128, 64]⟩ ⟨4, ![2, 256, 256, 64]⟩ (Layout.meshBlock [2, 2] ![[], [0], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v90) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_k_KernelIdeal : Cert.Pre_finite_x_k_KernelIdeal.Facts) (hPre_finite_x_k_ReferenceIdeal : Cert.Pre_finite_x_k_ReferenceIdeal.Facts),
    quiescent_Kernel (hKernel := hKernel)
    ∧ quiescent_KernelIdeal (hKernelIdeal := hKernelIdeal)
    ∧ quiescent_KernelIdeal_pre_finite_x_k_KernelIdeal (hKernelIdeal := hKernelIdeal) (hPre_finite_x_k_KernelIdeal := hPre_finite_x_k_KernelIdeal)
    ∧ quiescent_ReferenceIdeal (hReferenceIdeal := hReferenceIdeal)
    ∧ quiescent_ReferenceIdeal_pre_finite_x_k_ReferenceIdeal (hReferenceIdeal := hReferenceIdeal) (hPre_finite_x_k_ReferenceIdeal := hPre_finite_x_k_ReferenceIdeal)
    ∧ preserves_Kernel_KernelIdeal
    ∧ algebraic_KernelIdeal_ReferenceIdeal_pre_finite_x_k_KernelIdeal (hKernelIdeal := hKernelIdeal) (hReferenceIdeal := hReferenceIdeal) (hPre_finite_x_k_KernelIdeal := hPre_finite_x_k_KernelIdeal)
-- ==== Pre_finite_x_k_KernelIdeal.lean ====
abbrev S2x128x128x64 : Shape := ⟨4, ![2, 128, 128, 64]⟩
abbrev S3x3x64 : Shape := ⟨3, ![3, 3, 64]⟩
abbrev S64x64 : Shape := ⟨2, ![64, 64]⟩
abbrev S_ : Shape := ⟨0, ![]⟩

class Facts : Prop where
  bcast_S_S2x128x128x64 : S_.BroadcastsInDim S2x128x128x64 (![] : Fin 0 → Fin S2x128x128x64.rank)
  reducesTo_S2x128x128x64_S_d0_1_2_3 : S2x128x128x64.ReducesTo [0, 1, 2, 3] S_
  h_S_ : 0 < S_.numel
  bcast_S_S3x3x64 : S_.BroadcastsInDim S3x3x64 (![] : Fin 0 → Fin S3x3x64.rank)
  reducesTo_S3x3x64_S_d0_1_2 : S3x3x64.ReducesTo [0, 1, 2] S_

variable [Facts]

def fn {F : FTy → Type} [FloatOps F] (main_arg0 : FVec F S2x128x128x64 .f32) (main_arg1 : FVec F S3x3x64 .f32) (main_arg2 : FVec F S64x64 .f32) : IVec S_ 1 :=
  let main_v0 : FVec F S2x128x128x64 .f32 := Host.absf main_arg0
  let main_cst : FVec F S_ .f32 := constant S_ .f32 0x7F800000#32
  let main_v1 : FVec F S2x128x128x64 .f32 := broadcastInDim S2x128x128x64 ![] bcast_S_S2x128x128x64 main_cst
  let main_v2 : IVec S2x128x128x64 1 := cmpf .olt main_v0 main_v1
  let main_c : IVec S_ 1 := constantI S_ 1 1#1
  let main_v3 : IVec S_ 1 := (fun x v => Host.reduce IntOp.andi x v reducesTo_S2x128x128x64_S_d0_1_2_3 h_S_) main_v2 main_c
  let main_v4 : FVec F S3x3x64 .f32 := Host.absf main_arg1
  let main_cst_0 : FVec F S_ .f32 := constant S_ .f32 0x7F800000#32
  let main_v5 : FVec F S3x3x64 .f32 := broadcastInDim S3x3x64 ![] bcast_S_S3x3x64 main_cst_0
  let main_v6 : IVec S3x3x64 1 := cmpf .olt main_v4 main_v5
  let main_c_1 : IVec S_ 1 := constantI S_ 1 1#1
  let main_v7 : IVec S_ 1 := (fun x v => Host.reduce IntOp.andi x v reducesTo_S3x3x64_S_d0_1_2 h_S_) main_v6 main_c_1
  let main_v8 : IVec S_ 1 := andi main_v3 main_v7
  main_v8
-- ==== Pre_finite_x_k_ReferenceIdeal.lean ====
abbrev S2x256x256x64 : Shape := ⟨4, ![2, 256, 256, 64]⟩
abbrev S3x3x64 : Shape := ⟨3, ![3, 3, 64]⟩
abbrev S64x64 : Shape := ⟨2, ![64, 64]⟩
abbrev S_ : Shape := ⟨0, ![]⟩

class Facts : Prop where
  bcast_S_S2x256x256x64 : S_.BroadcastsInDim S2x256x256x64 (![] : Fin 0 → Fin S2x256x256x64.rank)
  reducesTo_S2x256x256x64_S_d0_1_2_3 : S2x256x256x64.ReducesTo [0, 1, 2, 3] S_
  h_S_ : 0 < S_.numel
  bcast_S_S3x3x64 : S_.BroadcastsInDim S3x3x64 (![] : Fin 0 → Fin S3x3x64.rank)
  reducesTo_S3x3x64_S_d0_1_2 : S3x3x64.ReducesTo [0, 1, 2] S_

variable [Facts]

def fn {F : FTy → Type} [FloatOps F] (main_arg0 : FVec F S2x256x256x64 .f32) (main_arg1 : FVec F S3x3x64 .f32) (main_arg2 : FVec F S64x64 .f32) : IVec S_ 1 :=
  let main_v0 : FVec F S2x256x256x64 .f32 := Host.absf main_arg0
  let main_cst : FVec F S_ .f32 := constant S_ .f32 0x7F800000#32
  let main_v1 : FVec F S2x256x256x64 .f32 := broadcastInDim S2x256x256x64 ![] bcast_S_S2x256x256x64 main_cst
  let main_v2 : IVec S2x256x256x64 1 := cmpf .olt main_v0 main_v1
  let main_c : IVec S_ 1 := constantI S_ 1 1#1
  let main_v3 : IVec S_ 1 := (fun x v => Host.reduce IntOp.andi x v reducesTo_S2x256x256x64_S_d0_1_2_3 h_S_) main_v2 main_c
  let main_v4 : FVec F S3x3x64 .f32 := Host.absf main_arg1
  let main_cst_0 : FVec F S_ .f32 := constant S_ .f32 0x7F800000#32
  let main_v5 : FVec F S3x3x64 .f32 := broadcastInDim S3x3x64 ![] bcast_S_S3x3x64 main_cst_0
  let main_v6 : IVec S3x3x64 1 := cmpf .olt main_v4 main_v5
  let main_c_1 : IVec S_ 1 := constantI S_ 1 1#1
  let main_v7 : IVec S_ 1 := (fun x v => Host.reduce IntOp.andi x v reducesTo_S3x3x64_S_d0_1_2 h_S_) main_v6 main_c_1
  let main_v8 : IVec S_ 1 := andi main_v3 main_v7
  main_v8
-- ==== Kernel.lean ====
abbrev S2x128x128x64 : Shape := ⟨4, ![2, 128, 128, 64]⟩
abbrev S3x3x64 : Shape := ⟨3, ![3, 3, 64]⟩
abbrev S64x64 : Shape := ⟨2, ![64, 64]⟩
abbrev S2x128x8192 : Shape := ⟨3, ![2, 128, 8192]⟩
abbrev S2x1x8192 : Shape := ⟨3, ![2, 1, 8192]⟩
abbrev S2x128x64 : Shape := ⟨3, ![2, 128, 64]⟩
abbrev S2x1x64 : Shape := ⟨3, ![2, 1, 64]⟩
abbrev S4x2x2x64 : Shape := ⟨4, ![4, 2, 2, 64]⟩
abbrev S6 : Shape := ⟨1, ![6]⟩
abbrev S_ : Shape := ⟨0, ![]⟩
abbrev S1 : Shape := ⟨1, ![1]⟩
abbrev S2x8192 : Shape := ⟨2, ![2, 8192]⟩
abbrev S2x64 : Shape := ⟨2, ![2, 64]⟩
abbrev S1x1x2x64 : Shape := ⟨4, ![1, 1, 2, 64]⟩
abbrev S1x2x2x64 : Shape := ⟨4, ![1, 2, 2, 64]⟩
abbrev S2x2x64 : Shape := ⟨3, ![2, 2, 64]⟩
abbrev S1x2x64 : Shape := ⟨3, ![1, 2, 64]⟩
abbrev S64 : Shape := ⟨1, ![64]⟩
abbrev S1x1x64 : Shape := ⟨3, ![1, 1, 64]⟩
abbrev S1x128x64 : Shape := ⟨3, ![1, 128, 64]⟩
abbrev S1x8192 : Shape := ⟨2, ![1, 8192]⟩
abbrev S1x128x8192 : Shape := ⟨3, ![1, 128, 8192]⟩
abbrev S128x8192 : Shape := ⟨2, ![128, 8192]⟩
abbrev S1x1x8192 : Shape := ⟨3, ![1, 1, 8192]⟩
abbrev S128x64 : Shape := ⟨2, ![128, 64]⟩
abbrev S1x64 : Shape := ⟨2, ![1, 64]⟩
abbrev S1x8320 : Shape := ⟨2, ![1, 8320]⟩
abbrev S128x8320 : Shape := ⟨2, ![128, 8320]⟩
abbrev S130x8320 : Shape := ⟨2, ![130, 8320]⟩
abbrev S128x128x64 : Shape := ⟨3, ![128, 128, 64]⟩
abbrev S16384x64 : Shape := ⟨2, ![16384, 64]⟩

abbrev nBuf : Space → Nat
  | .hbm => 6
  | .vmem => 11
  | .smem => 0
  | _ => 0

abbrev bufTy : (tb : Table) → Fin (tcTables nBuf tb) → BufTy
  | .hbm, ⟨0, _⟩ => ⟨S2x128x128x64, .f32⟩
  | .hbm, ⟨1, _⟩ => ⟨S3x3x64, .f32⟩
  | .hbm, ⟨2, _⟩ => ⟨S64x64, .f32⟩
  | .hbm, ⟨3, _⟩ => ⟨S2x128x8192, .f32⟩
  | .hbm, ⟨4, _⟩ => ⟨S2x128x8192, .f32⟩
  | .hbm, ⟨5, _⟩ => ⟨S2x128x128x64, .f32⟩
  | .local _ .vmem, ⟨0, _⟩ => ⟨S2x128x8192, .f32⟩
  | .local _ .vmem, ⟨1, _⟩ => ⟨S3x3x64, .f32⟩
  | .local _ .vmem, ⟨2, _⟩ => ⟨S64x64, .f32⟩
  | .local _ .vmem, ⟨3, _⟩ => ⟨S2x128x8192, .f32⟩
  | .local _ .vmem, ⟨4, _⟩ => ⟨S2x1x8192, .f32⟩
  | .local _ .vmem, ⟨5, _⟩ => ⟨S2x1x8192, .f32⟩
  | .local _ .vmem, ⟨6, _⟩ => ⟨S2x128x64, .f32⟩
  | .local _ .vmem, ⟨7, _⟩ => ⟨S2x128x64, .f32⟩
  | .local _ .vmem, ⟨8, _⟩ => ⟨S2x1x64, .f32⟩
  | .local _ .vmem, ⟨9, _⟩ => ⟨S2x1x64, .f32⟩
  | .local _ .vmem, ⟨10, _⟩ => ⟨S4x2x2x64, .f32⟩
  | _, _ => ⟨S2x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_9 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_8 : BitVec 32 := 2#32
  let v13 : BitVec 32 := Scalar.muli v6 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v17 : BitVec 32 := Scalar.muli v2 c2_i32_12
  let v18 : BitVec 32 := Scalar.addi c0_i32_13 v17
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_14 : BitVec 32 := 1#32
  let v19 : BitVec 32 := Scalar.muli v7 c1_i32_14
  let v20 : BitVec 32 := Scalar.addi v18 v19
  v20.toNat
def k0_dev3 (d0 : Dev nD) : Nat :=
  let c0_i32_17 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_16 : BitVec 32 := 2#32
  let v21 : BitVec 32 := Scalar.muli v8 c2_i32_16
  let v22 : BitVec 32 := Scalar.addi c0_i32_17 v21
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_18 : BitVec 32 := 1#32
  let v23 : BitVec 32 := Scalar.muli v9 c1_i32_18
  let v24 : BitVec 32 := Scalar.addi v22 v23
  v24.toNat
def k0_dev4 (d0 : Dev nD) : Nat :=
  let c0_i32_33 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_32 : BitVec 32 := 2#32
  let v45 : BitVec 32 := Scalar.muli v6 c2_i32_32
  let v46 : BitVec 32 := Scalar.addi c0_i32_33 v45
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_34 : BitVec 32 := 1#32
  let v47 : BitVec 32 := Scalar.muli v5 c1_i32_34
  let v48 : BitVec 32 := Scalar.addi v46 v47
  v48.toNat
def k0_dev5 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v53 : BitVec 32 := Scalar.muli v2 c2_i32_37
  let v54 : BitVec 32 := Scalar.addi c0_i32_38 v53
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_39 : BitVec 32 := 1#32
  let v55 : BitVec 32 := Scalar.muli v7 c1_i32_39
  let v56 : BitVec 32 := Scalar.addi v54 v55
  v56.toNat
def k0_dev6 (d0 : Dev nD) : Nat :=
  let c0_i32_43 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_42 : BitVec 32 := 2#32
  let v61 : BitVec 32 := Scalar.muli v8 c2_i32_42
  let v62 : BitVec 32 := Scalar.addi c0_i32_43 v61
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_44 : BitVec 32 := 1#32
  let v63 : BitVec 32 := Scalar.muli v9 c1_i32_44
  let v64 : BitVec 32 := Scalar.addi v62 v63
  v64.toNat
def k0_dev7 (d0 : Dev nD) : Nat :=
  let c0_i32_60 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_59 : BitVec 32 := 2#32
  let v82 : BitVec 32 := Scalar.muli v6 c2_i32_59
  let v83 : BitVec 32 := Scalar.addi c0_i32_60 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_61 : BitVec 32 := 1#32
  let v84 : BitVec 32 := Scalar.muli v5 c1_i32_61
  let v85 : BitVec 32 := Scalar.addi v83 v84
  v85.toNat
def k0_dev8 (d0 : Dev nD) : Nat :=
  let c0_i32_72 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_71 : BitVec 32 := 2#32
  let v94 : BitVec 32 := Scalar.muli v2 c2_i32_71
  let v95 : BitVec 32 := Scalar.addi c0_i32_72 v94
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_73 : BitVec 32 := 1#32
  let v96 : BitVec 32 := Scalar.muli v7 c1_i32_73
  let v97 : BitVec 32 := Scalar.addi v95 v96
  v97.toNat
def k0_dev9 (d0 : Dev nD) : Nat :=
  let c0_i32_84 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_83 : BitVec 32 := 2#32
  let v106 : BitVec 32 := Scalar.muli v8 c2_i32_83
  let v107 : BitVec 32 := Scalar.addi c0_i32_84 v106
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_85 : BitVec 32 := 1#32
  let v108 : BitVec 32 := Scalar.muli v9 c1_i32_85
  let v109 : BitVec 32 := Scalar.addi v107 v108
  v109.toNat
abbrev stage0_0 : Fin 1 → Memref sig .tc .vmem S2x128x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x256x256x64 : Shape := ⟨4, ![2, 256, 256, 64]⟩
abbrev S3x3x64 : Shape := ⟨3, ![3, 3, 64]⟩
abbrev S64x64 : Shape := ⟨2, ![64, 64]⟩
abbrev S_ : Shape := ⟨0, ![]⟩
abbrev S2x64 : Shape := ⟨2, ![2, 64]⟩
abbrev S2x1x1x64 : Shape := ⟨4, ![2, 1, 1, 64]⟩
abbrev S2x1x256x64 : Shape := ⟨4, ![2, 1, 256, 64]⟩
abbrev S2x258x256x64 : Shape := ⟨4, ![2, 258, 256, 64]⟩
abbrev S2x258x1x64 : Shape := ⟨4, ![2, 258, 1, 64]⟩
abbrev S2x258x258x64 : Shape := ⟨4, ![2, 258, 258, 64]⟩
abbrev S1x1x64 : Shape := ⟨3, ![1, 1, 64]⟩
abbrev S64 : Shape := ⟨1, ![64]⟩
abbrev S1x1x1x64 : Shape := ⟨4, ![1, 1, 1, 64]⟩
abbrev S131072x64 : Shape := ⟨2, ![131072, 64]⟩

abbrev nBuf : Space → Nat
  | .hbm => 122
  | .vmem => 0
  | .smem => 0
  | _ => 0

abbrev bufTy : (tb : Table) → Fin (tcTables nBuf tb) → BufTy
  | .hbm, ⟨0, _⟩ => ⟨S2x256x256x64, .f32⟩
  | .hbm, ⟨1, _⟩ => ⟨S3x3x64, .f32⟩
  | .hbm, ⟨2, _⟩ => ⟨S64x64, .f32⟩
  | .hbm, ⟨3, _⟩ => ⟨S_, .f32⟩
  | .hbm, ⟨4, _⟩ => ⟨S2x64, .f32⟩
  | .hbm, ⟨5, _⟩ => ⟨S2x1x1x64, .f32⟩
  | .hbm, ⟨6, _⟩ => ⟨S_, .f32⟩
  | .hbm, ⟨7, _⟩ => ⟨S2x1x1x64, .f32⟩
  | .hbm, ⟨8, _⟩ => ⟨S2x1x1x64, .f32⟩
  | .hbm, ⟨9, _⟩ => ⟨S_, .i32⟩
  | .hbm, ⟨10, _⟩ => ⟨S_, .f32⟩
  | .hbm, ⟨11, _⟩ => ⟨S2x64, .f32⟩
  | .hbm, ⟨12, _⟩ => ⟨S2x1x1x64, .f32⟩
  | .hbm, ⟨13, _⟩ => ⟨S_, .f32⟩
  | .hbm, ⟨14, _⟩ => ⟨S2x1x1x64, .f32⟩
  | .hbm, ⟨15, _⟩ => ⟨S2x1x1x64, .f32⟩
  | .hbm, ⟨16, _⟩ => ⟨S2x256x256x64, .f32⟩
  | .hbm, ⟨17, _⟩ => ⟨S2x256x256x64, .f32⟩
  | .hbm, ⟨18, _⟩ => ⟨S2x256x256x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x64, .f32⟩
  | .hbm, ⟨24, _⟩ => ⟨S2x1x1x64, .f32⟩
  | .hbm, ⟨25, _⟩ => ⟨S2x1x1x64, .f32⟩
  | .hbm, ⟨26, _⟩ => ⟨S2x1x1x64, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2x1x1x64, .f32⟩
  | .hbm, ⟨32, _⟩ => ⟨S2x1x1x64, .f32⟩
  | .hbm, ⟨33, _⟩ => ⟨S2x256x256x64, .f32⟩
  | .hbm, ⟨34, _⟩ => ⟨S2x256x256x64, .f32⟩
  | .hbm, ⟨35, _⟩ => ⟨S_, .f32⟩
  | .hbm, ⟨36, _⟩ => ⟨S2x1x1x64, .f32⟩
  | .hbm, ⟨37, _⟩ => ⟨S2x1x1x64, .f32⟩
  | .hbm, ⟨38, _⟩ => ⟨S2x1x1x64, .f32⟩
  | .hbm, ⟨39, _⟩ => ⟨S2x256x256x64, .f32⟩
  | .hbm, ⟨40, _⟩ => ⟨S2x256x256x64, .f32⟩
  | .hbm, ⟨41, _⟩ => ⟨S2x1x256x64, .f32⟩
  | .hbm, ⟨42, _⟩ => ⟨S2x1x256x64, .f32⟩
  | .hbm, ⟨43, _⟩ => ⟨S2x258x256x64, .f32⟩
  | .hbm, ⟨44, _⟩ => ⟨S2x258x1x64, .f32⟩
  | .hbm, ⟨45, _⟩ => ⟨S2x258x1x64, .f32⟩
  | .hbm, ⟨46, _⟩ => ⟨S2x258x258x64, .f32⟩
  | .hbm, ⟨47, _⟩ => ⟨S_, .f32⟩
  | .hbm, ⟨48, _⟩ => ⟨S2x256x256x64, .f32⟩
  | .hbm, ⟨49, _⟩ => ⟨S2x256x256x64, .f32⟩
  | .hbm, ⟨50, _⟩ => ⟨S1x1x64, .f32⟩
  | .hbm, ⟨51, _⟩ => ⟨S64, .f32⟩
  | .hbm, ⟨52, _⟩ => ⟨S1x1x1x64, .f32⟩
  | .hbm, ⟨53, _⟩ => ⟨S2x256x256x64, .f32⟩
  | .hbm, ⟨54, _⟩ => ⟨S2x256x256x64, .f32⟩
  | .hbm, ⟨55, _⟩ => ⟨S2x256x256x64, .f32⟩
  | .hbm, ⟨56, _⟩ => ⟨S2x256x256x64, .f32⟩
  | .hbm, ⟨57, _⟩ => ⟨S1x1x64, .f32⟩
  | .hbm, ⟨58, _⟩ => ⟨S64, .f32⟩
  | .hbm, ⟨59, _⟩ => ⟨S1x1x1x64, .f32⟩
  | .hbm, ⟨60, _⟩ => ⟨S2x256x256x64, .f32⟩
  | .hbm, ⟨61, _⟩ => ⟨S2x256x256x64, .f32⟩
  | .hbm, ⟨62, _⟩ => ⟨S2x256x256x64, .f32⟩
  | .hbm, ⟨63, _⟩ => ⟨S2x256x256x64, .f32⟩
  | .hbm, ⟨64, _⟩ => ⟨S1x1x64, .f32⟩
  | .hbm, ⟨65, _⟩ => ⟨S64, .f32⟩
  | .hbm, ⟨66, _⟩ => ⟨S1x1x1x64, .f32⟩
  | .hbm, ⟨67, _⟩ => ⟨S2x256x256x64, .f32⟩
  | .hbm, ⟨68, _⟩ => ⟨S2x256x256x64, .f32⟩
  | .hbm, ⟨69, _⟩ => ⟨S2x256x256x64, .f32⟩
  | .hbm, ⟨70, _⟩ => ⟨S2x256x256x64, .f32⟩
  | .hbm, ⟨71, _⟩ => ⟨S1x1x64, .f32⟩
  | .hbm, ⟨72, _⟩ => ⟨S64, .f32⟩
  | .hbm, ⟨73, _⟩ => ⟨S1x1x1x64, .f32⟩
  | .hbm, ⟨74, _⟩ => ⟨S2x256x256x64, .f32⟩
  | .hbm, ⟨75, _⟩ => ⟨S2x256x256x64, .f32⟩
  | .hbm, ⟨76, _⟩ => ⟨S2x256x256x64, .f32⟩
  | .hbm, ⟨77, _⟩ => ⟨S2x256x256x64, .f32⟩
  | .hbm, ⟨78, _⟩ => ⟨S1x1x64, .f32⟩
  | .hbm, ⟨79, _⟩ => ⟨S64, .f32⟩
  | .hbm, ⟨80, _⟩ => ⟨S1x1x1x64, .f32⟩
  | .hbm, ⟨81, _⟩ => ⟨S2x256x256x64, .f32⟩
  | .hbm, ⟨82, _⟩ => ⟨S2x256x256x64, .f32⟩
  | .hbm, ⟨83, _⟩ => ⟨S2x256x256x64, .f32⟩
  | .hbm, ⟨84, _⟩ => ⟨S2x256x256x64, .f32⟩
  | .hbm, ⟨85, _⟩ => ⟨S1x1x64, .f32⟩
  | .hbm, ⟨86, _⟩ => ⟨S64, .f32⟩
  | .hbm, ⟨87, _⟩ => ⟨S1x1x1x64, .f32⟩
  | .hbm, ⟨88, _⟩ => ⟨S2x256x256x64, .f32⟩
  | .hbm, ⟨89, _⟩ => ⟨S2x256x256x64, .f32⟩
  | .hbm, ⟨90, _⟩ => ⟨S2x256x256x64, .f32⟩
  | .hbm, ⟨91, _⟩ => ⟨S2x256x256x64, .f32⟩
  | .hbm, ⟨92, _⟩ => ⟨S1x1x64, .f32⟩
  | .hbm, ⟨93, _⟩ => ⟨S64, .f32⟩
  | .hbm, ⟨94, _⟩ => ⟨S1x1x1x64, .f32⟩
  | .hbm, ⟨95, _⟩ => ⟨S2x256x256x64, .f32⟩
  | .hbm, ⟨96, _⟩ => ⟨S2x256x256x64, .f32⟩
  | .hbm, ⟨97, _⟩ => ⟨S2x256x256x64, .f32⟩
  | .hbm, ⟨98, _⟩ => ⟨S2x256x256x64, .f32⟩
  | .hbm, ⟨99, _⟩ => ⟨S1x1x64, .f32⟩
  | .hbm, ⟨100, _⟩ => ⟨S64, .f32⟩
  | .hbm, ⟨101, _⟩ => ⟨S1x1x1x64, .f32⟩
  | .hbm, ⟨102, _⟩ => ⟨S2x256x256x64, .f32⟩
  | .hbm, ⟨103, _⟩ => ⟨S2x256x256x64, .f32⟩
  | .hbm, ⟨104, _⟩ => ⟨S2x256x256x64, .f32⟩
  | .hbm, ⟨105, _⟩ => ⟨S2x256x256x64, .f32⟩
  | .hbm, ⟨106, _⟩ => ⟨S1x1x64, .f32⟩
  | .hbm, ⟨107, _⟩ => ⟨S64, .f32⟩
  | .hbm, ⟨108, _⟩ => ⟨S1x1x1x64, .f32⟩
  | .hbm, ⟨109, _⟩ => ⟨S2x256x256x64, .f32⟩
  | .hbm, ⟨110, _⟩ => ⟨S2x256x256x64, .f32⟩
  | .hbm, ⟨111, _⟩ => ⟨S2x256x256x64, .f32⟩
  | .hbm, ⟨112, _⟩ => ⟨S2x256x256x64, .f32⟩
  | .hbm, ⟨113, _⟩ => ⟨S2x256x256x64, .f32⟩
  | .hbm, ⟨114, _⟩ => ⟨S_, .f32⟩
  | .hbm, ⟨115, _⟩ => ⟨S2x256x256x64, .f32⟩
  | .hbm, ⟨116, _⟩ => ⟨S2x256x256x64, .f32⟩
  | .hbm, ⟨117, _⟩ => ⟨S2x256x256x64, .f32⟩
  | .hbm, ⟨118, _⟩ => ⟨S131072x64, .f32⟩
  | .hbm, ⟨119, _⟩ => ⟨S131072x64, .f32⟩
  | .hbm, ⟨120, _⟩ => ⟨S2x256x256x64, .f32⟩
  | .hbm, ⟨121, _⟩ => ⟨S2x256x256x64, .f32⟩
  | _, _ => ⟨S2x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_3 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== Proof.Common.lean ====
/-
  The exchange of the kernel, as a round schedule: who pays what to which semaphore, and with which contents.

  A device talks to three others: its neighbour along the rows of the mesh, its neighbour along the columns, and the one
  opposite.  Each signals the other three once (the landing buffers are ready), then sends six blocks: the row of its
  edge, the column of its edge, its corner, and its two moments to each of the three.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.Tactic
public import Idealize.ShloMosaic.Lib.ValueIdxCore
public import Idealize.ShloMosaic.Lib.Exec.Geometry

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

/-- The ghost state: the fetches' and the schedule's. -/
abbrev UU : Type := UR sig nD τ × URounds (GSem nD τ sig) (Fin 3)

local notation "𝕄" => MT nD τ sig Unit (Elt F) ℕ UU ℕ

/-- The fetches' part of it. -/
abbrev EP : Emb (UR sig nD τ) (MT nD τ sig Unit (Elt F) ℕ UU ℕ) := embL
/-- The schedule's part of it. -/
abbrev ER : Emb (URounds (GSem nD τ sig) (Fin 3)) (MT nD τ sig Unit (Elt F) ℕ UU ℕ) := embR

/-- No loop needs a variant. -/
abbrev 𝒱₀ : Variants := Variants.none

/-! ## The three peers -/

/-- The neighbour along the rows of the mesh (0), along its columns (1), and the device opposite (2). -/
def peer (i : Fin 3) (c : Dev nD) : Dev nD :=
  match i with
  | 0 => ⟨((c.val % 2) + 2) - 2 * (c.val / 2), by have := c.isLt; show _ < 4; have : c.val < 4 := c.isLt; omega⟩
  | 1 => ⟨(2 * (c.val / 2) + 1) - (c.val % 2), by show _ < 4; have : c.val < 4 := c.isLt; omega⟩
  | 2 => ⟨3 - (2 * (c.val / 2) + (c.val % 2)), by show _ < 4; omega⟩

/-- Each of the three maps is its own inverse. -/
theorem peer_peer (i : Fin 3) (c : Dev nD) : peer i (peer i c) = c := by revert i c; decide

/-- The three maps as permutations of the devices. -/
def peerE (i : Fin 3) : Dev nD ≃ Dev nD := ⟨peer i, peer i, peer_peer i, peer_peer i⟩

/-- The first signal goes to this peer. -/
theorem dev1_eq (c : Dev nD) : (⟨k0_dev1 c, k0_dev1_lt c⟩ : Dev nD) = peer 0 c := Fin.ext (k0_dev1_eq c)
/-- The second signal goes to this peer. -/
theorem dev2_eq (c : Dev nD) : (⟨k0_dev2 c, k0_dev2_lt c⟩ : Dev nD) = peer 1 c := Fin.ext (k0_dev2_eq c)
/-- The third signal goes to this peer. -/
theorem dev3_eq (c : Dev nD) : (⟨k0_dev3 c, k0_dev3_lt c⟩ : Dev nD) = peer 2 c := Fin.ext (k0_dev3_eq c)
/-- The row goes to this peer. -/
theorem dev4_eq (c : Dev nD) : (⟨k0_dev4 c, k0_dev4_lt c⟩ : Dev nD) = peer 0 c := Fin.ext (k0_dev4_eq c)
/-- The column goes to this peer. -/
theorem dev5_eq (c : Dev nD) : (⟨k0_dev5 c, k0_dev5_lt c⟩ : Dev nD) = peer 1 c := Fin.ext (k0_dev5_eq c)
/-- The corner goes to this peer. -/
theorem dev6_eq (c : Dev nD) : (⟨k0_dev6 c, k0_dev6_lt c⟩ : Dev nD) = peer 2 c := Fin.ext (k0_dev6_eq c)
/-- The first copy of the sums goes to this peer. -/
theorem dev7_eq (c : Dev nD) : (⟨k0_dev7 c, k0_dev7_lt c⟩ : Dev nD) = peer 0 c := Fin.ext (k0_dev7_eq c)
/-- The second copy of the sums goes to this peer. -/
theorem dev8_eq (c : Dev nD) : (⟨k0_dev8 c, k0_dev8_lt c⟩ : Dev nD) = peer 1 c := Fin.ext (k0_dev8_eq c)
/-- The third copy of the sums goes to this peer. -/
theorem dev9_eq (c : Dev nD) : (⟨k0_dev9 c, k0_dev9_lt c⟩ : Dev nD) = peer 2 c := Fin.ext (k0_dev9_eq c)

/-- The device whose statistics row `j` of the statistics buffer of `c` holds. -/
def who (j : Fin 4) (c : Dev nD) : Dev nD :=
  match j with
  | 0 => c
  | 1 => peer 0 c
  | 2 => peer 1 c
  | 3 => peer 2 c

/-! ## Semaphores and cells -/

/-- The barrier semaphore. -/
abbrev barS : Sem sig := (SemArray.scalar (sig.barrier 0 rfl) : Sems sig S_).sem
/-- The send semaphore of flow `i`. -/
abbrev sendS (i : Fin 6) : DmaSem sig := ⟨4 + i.val, by show _ < 16; omega⟩
/-- The receive semaphore of flow `i`. -/
abbrev recvS (i : Fin 6) : DmaSem sig := ⟨10 + i.val, by show _ < 16; omega⟩

/-- Element 0 of the array of send semaphores. -/
theorem slcS0 : ((cc0_scratch7.slice (Rect.unit (s := S6) ![0] ![1] inb_S6_S1_0)).squeeze S_ squeezes_S1_S_).sem = sendS 0 := rfl
/-- Element 1 of the array of send semaphores. -/
theorem slcS1 : ((cc0_scratch7.slice (Rect.unit (s := S6) ![1] ![1] inb_S6_S1_1)).squeeze S_ squeezes_S1_S_).sem = sendS 1 := rfl
/-- Element 2 of the array of send semaphores. -/
theorem slcS2 : ((cc0_scratch7.slice (Rect.unit (s := S6) ![2] ![1] inb_S6_S1_2)).squeeze S_ squeezes_S1_S_).sem = sendS 2 := rfl
/-- Element 3 of the array of send semaphores. -/
theorem slcS3 : ((cc0_scratch7.slice (Rect.unit (s := S6) ![3] ![1] inb_S6_S1_3)).squeeze S_ squeezes_S1_S_).sem = sendS 3 := rfl
/-- Element 4 of the array of send semaphores. -/
theorem slcS4 : ((cc0_scratch7.slice (Rect.unit (s := S6) ![4] ![1] inb_S6_S1_4)).squeeze S_ squeezes_S1_S_).sem = sendS 4 := rfl
/-- Element 5 of the array of send semaphores. -/
theorem slcS5 : ((cc0_scratch7.slice (Rect.unit (s := S6) ![5] ![1] inb_S6_S1_5)).squeeze S_ squeezes_S1_S_).sem = sendS 5 := rfl
/-- Element 0 of the array of receive semaphores. -/
theorem slcR0 : ((cc0_scratch8.slice (Rect.unit (s := S6) ![0] ![1] inb_S6_S1_0)).squeeze S_ squeezes_S1_S_).sem = recvS 0 := rfl
/-- Element 1 of the array of receive semaphores. -/
theorem slcR1 : ((cc0_scratch8.slice (Rect.unit (s := S6) ![1] ![1] inb_S6_S1_1)).squeeze S_ squeezes_S1_S_).sem = recvS 1 := rfl
/-- Element 2 of the array of receive semaphores. -/
theorem slcR2 : ((cc0_scratch8.slice (Rect.unit (s := S6) ![2] ![1] inb_S6_S1_2)).squeeze S_ squeezes_S1_S_).sem = recvS 2 := rfl
/-- Element 3 of the array of receive semaphores. -/
theorem slcR3 : ((cc0_scratch8.slice (Rect.unit (s := S6) ![3] ![1] inb_S6_S1_3)).squeeze S_ squeezes_S1_S_).sem = recvS 3 := rfl
/-- Element 4 of the array of receive semaphores. -/
theorem slcR4 : ((cc0_scratch8.slice (Rect.unit (s := S6) ![4] ![1] inb_S6_S1_4)).squeeze S_ squeezes_S1_S_).sem = recvS 4 := rfl
/-- Element 5 of the array of receive semaphores. -/
theorem slcR5 : ((cc0_scratch8.slice (Rect.unit (s := S6) ![5] ![1] inb_S6_S1_5)).squeeze S_ squeezes_S1_S_).sem = recvS 5 := rfl

/-- The barrier of device `c`. -/
abbrev barCell (c : Dev nD) : GSem nD τ sig := ((c : Thread nD τ), .reg barS)
/-- The send semaphore of flow `i` on device `c`. -/
abbrev sendCell (i : Fin 6) (c : Dev nD) : GSem nD τ sig := ((c : Thread nD τ), .dma (sendS i))
/-- The receive semaphore of flow `i` on device `c`. -/
abbrev recvCell (i : Fin 6) (c : Dev nD) : GSem nD τ sig := ((c : Thread nD τ), .dma (recvS i))

/-! ## The rows of the statistics buffer -/

/-- The statistics buffer, whole. -/
abbrev stM : Memref sig .tc .vmem S4x2x2x64 .f32 := Memref.whole cc0_scratch6
/-- Its row 0, the device's own. -/
abbrev sl0 : Memref sig .tc .vmem S2x2x64 .f32 :=
  (stM.slice (Rect.unit (s := S4x2x2x64) ![0, 0, 0, 0] S1x2x2x64.size inb_S4x2x2x64_S1x2x2x64_0_0_0_0) (fun _ => rfl)).squeeze S2x2x64 squeezes_S1x2x2x64_S2x2x64
/-- Its row 1, from the first peer. -/
abbrev sl1 : Memref sig .tc .vmem S2x2x64 .f32 :=
  (stM.slice (Rect.unit (s := S4x2x2x64) ![1, 0, 0, 0] S1x2x2x64.size inb_S4x2x2x64_S1x2x2x64_1_0_0_0) (fun _ => rfl)).squeeze S2x2x64 squeezes_S1x2x2x64_S2x2x64
/-- Its row 2, from the second peer. -/
abbrev sl2 : Memref sig .tc .vmem S2x2x64 .f32 :=
  (stM.slice (Rect.unit (s := S4x2x2x64) ![2, 0, 0, 0] S1x2x2x64.size inb_S4x2x2x64_S1x2x2x64_2_0_0_0) (fun _ => rfl)).squeeze S2x2x64 squeezes_S1x2x2x64_S2x2x64
/-- Its row 3, from the third peer. -/
abbrev sl3 : Memref sig .tc .vmem S2x2x64 .f32 :=
  (stM.slice (Rect.unit (s := S4x2x2x64) ![3, 0, 0, 0] S1x2x2x64.size inb_S4x2x2x64_S1x2x2x64_3_0_0_0) (fun _ => rfl)).squeeze S2x2x64 squeezes_S1x2x2x64_S2x2x64

/-- The elements of row `j` of the statistics buffer. -/
def rowSet (j : Fin 4) : Finset S4x2x2x64.Idx := Finset.univ.filter fun i => (i 0).val = j.val

/-- An element is in row `j` when its first coordinate is `j`. -/
theorem mem_rowSet {j : Fin 4} {i : S4x2x2x64.Idx} : i ∈ rowSet j ↔ (i 0).val = j.val := by
  simp [rowSet]

/-- The rectangle of row `J` has the elements of that row. -/
theorem row_unit (j : ℕ) (J : Fin 4) (hJ : J.val = j) (inb) :
    (Rect.unit (s := S4x2x2x64) ![j, 0, 0, 0] S1x2x2x64.size inb).set = rowSet J := by
  ext i
  rw [Rect.mem_set_unit, mem_rowSet]
  constructor
  · intro h
    have h0 : j ≤ (i 0).val ∧ (i 0).val < j + 1 := h 0
    omega
  · intro h a
    fin_cases a
    · show j ≤ (i 0).val ∧ (i 0).val < j + 1; omega
    · have h1 : (i 1).val < 2 := (i 1).isLt
      show 0 ≤ (i 1).val ∧ (i 1).val < 0 + 2; omega
    · have h2 : (i 2).val < 2 := (i 2).isLt
      show 0 ≤ (i 2).val ∧ (i 2).val < 0 + 2; omega
    · have h3 : (i 3).val < 64 := (i 3).isLt
      show 0 ≤ (i 3).val ∧ (i 3).val < 0 + 64; omega

/-- Row 0 as the copies name it. -/
theorem sl0_set : sl0.view.set = rowSet 0 := by
  exact (View.set_reshape _ _).trans ((View.set_slice_whole cc0_scratch6 _).trans (row_unit 0 0 rfl _))
/-- Row 1 as the copies name it. -/
theorem sl1_set : sl1.view.set = rowSet 1 := by
  exact (View.set_reshape _ _).trans ((View.set_slice_whole cc0_scratch6 _).trans (row_unit 1 1 rfl _))
/-- Row 2 as the copies name it. -/
theorem sl2_set : sl2.view.set = rowSet 2 := by
  exact (View.set_reshape _ _).trans ((View.set_slice_whole cc0_scratch6 _).trans (row_unit 2 2 rfl _))
/-- Row 3 as the copies name it. -/
theorem sl3_set : sl3.view.set = rowSet 3 := by
  exact (View.set_reshape _ _).trans ((View.set_slice_whole cc0_scratch6 _).trans (row_unit 3 3 rfl _))

/-- Rows of different numbers share no element. -/
theorem row_disj {j k : Fin 4} (h : j ≠ k) : Disjoint (rowSet j) (rowSet k) := by
  rw [Finset.disjoint_left]; intro i hi hk
  rw [mem_rowSet] at hi hk
  exact h (Fin.ext (hi.symm.trans hk))

/-- The four rows are the whole buffer. -/
theorem row_cover : rowSet 0 ∪ (rowSet 1 ∪ (rowSet 2 ∪ rowSet 3)) = Finset.univ := by
  ext i
  simp only [Finset.mem_union, mem_rowSet, Finset.mem_univ, iff_true]
  have : (i 0).val < 4 := (i 0).isLt
  show (i 0).val = 0 ∨ (i 0).val = 1 ∨ (i 0).val = 2 ∨ (i 0).val = 3
  omega

/-! ## What the buffers hold -/

section Contents

variable (X : Dev nD → (cc0_stg0_0 : Ref sig .tc).ty.Contents (Elt F))

/-- Whether the device is in the first row of the mesh, as the kernel's word. -/
abbrev onx (c : Dev nD) : BitVec 1 := Scalar.cmpi .eq (Scalar.remsi (Scalar.divsi (Dev.word c) 2#32) 2#32) 0#32
/-- Whether it is in the first column. -/
abbrev ony (c : Dev nD) : BitVec 1 := Scalar.cmpi .eq (Scalar.remsi (Scalar.divsi (Dev.word c) 1#32) 2#32) 0#32

/-- The row a device sends, the column, the corner. -/
def rowV (c : Dev nD) : S2x1x8192.Idx → Elt F .f32 := k0_pay3 (onx c) (k0_pay1 (X c)) (k0_pay2 (X c))
/-- The border column a device sends. -/
def colV (c : Dev nD) : S2x128x64.Idx → Elt F .f32 := k0_pay5 (ony c) (k0_pay1 (X c))
/-- The corner a device sends. -/
def corV (c : Dev nD) : S2x1x64.Idx → Elt F .f32 := k0_pay6 (onx c) (ony c) (k0_pay1 (X c))

/-- A device's own moments: the sums (0) and the sums of squares (1), of each image and channel. -/
def own (d : Dev nD) (a b : Fin 2) (ch : Fin 64) : Elt F .f32 :=
  if a.val = 0 then k0_pay7 (k0_pay1 (X d)) (ix4 0 0 b ch) else k0_pay8 (k0_pay1 (X d)) (ix4 0 0 b ch)

/-- The statistics buffer once everything has landed: row `j` holds the moments of device `who j c`. -/
def statsV (c : Dev nD) : S4x2x2x64.Idx → Elt F .f32 := fun i => own X (who (i 0) c) (i 1) (i 2) (i 3)

end Contents

/-! ## Points-to facts by name -/

/-- Buffer `b` of device `c`, whole, at share `q`. -/
abbrev pt (c : Dev nD) (b : Ref sig .tc) (q : PosShare TreeShare) (f : Buf (Elt F) ((c : Thread nD τ).loc b)) : sProp 𝕄 :=
  iprop(((c : Thread nD τ).loc b) ↦{q} f)
/-- Elements `S` of the statistics buffer of device `c`. -/
abbrev st (c : Dev nD) (S : Finset S4x2x2x64.Idx) (q : PosShare TreeShare) (f : Buf (Elt F) ((c : Thread nD τ).loc cc0_scratch6)) : sProp 𝕄 :=
  iprop(((c : Thread nD τ).loc cc0_scratch6) ↦[S]{q} f)

/-- The four quarters of a share. -/
abbrev qA : PosShare TreeShare := fullShare.left.left
/-- The second quarter. -/
abbrev qB : PosShare TreeShare := fullShare.left.right
/-- The third quarter. -/
abbrev qC : PosShare TreeShare := fullShare.right.left
/-- The last quarter. -/
abbrev qD : PosShare TreeShare := fullShare.right.right

/-! ## The schedule -/

section Sched

variable (X : Dev nD → (cc0_stg0_0 : Ref sig .tc).ty.Contents (Elt F))

/-- Paid to the barrier of `c` by its peer `d`: the peer's landing buffer for what `c` sends it, the peer's row for the
    moments of `c`, and that the two semaphores they are counted on are at their first round. -/
def barPay (c : Dev nD) (d : Fin 3) : sProp 𝕄 :=
  match d with
  | 0 => iprop((∃ f, pt (peer 0 c) cc0_scratch1 fullShare f) ∗ (∃ f, st (peer 0 c) (rowSet 1) fullShare f)
      ∗ reached ER (recvCell 0 (peer 0 c)) 0 ∗ reached ER (recvCell 3 (peer 0 c)) 0)
  | 1 => iprop((∃ f, pt (peer 1 c) cc0_scratch3 fullShare f) ∗ (∃ f, st (peer 1 c) (rowSet 2) fullShare f)
      ∗ reached ER (recvCell 1 (peer 1 c)) 0 ∗ reached ER (recvCell 4 (peer 1 c)) 0)
  | 2 => iprop((∃ f, pt (peer 2 c) cc0_scratch5 fullShare f) ∗ (∃ f, st (peer 2 c) (rowSet 3) fullShare f)
      ∗ reached ER (recvCell 2 (peer 2 c)) 0 ∗ reached ER (recvCell 5 (peer 2 c)) 0)

/-- Paid to the send semaphore of a copy: its source back. -/
def sendPay (i : Fin 6) (c : Dev nD) : sProp 𝕄 :=
  match i with
  | 0 => pt c cc0_scratch0 fullShare (rowV X c)
  | 1 => pt c cc0_scratch2 fullShare (colV X c)
  | 2 => pt c cc0_scratch4 fullShare (corV X c)
  | 3 => st c (rowSet 0) qA (statsV X c)
  | 4 => st c (rowSet 0) qB (statsV X c)
  | 5 => st c (rowSet 0) qC (statsV X c)

/-- Paid to the receive semaphore of a copy: what has landed. -/
def recvPay (i : Fin 6) (c : Dev nD) : sProp 𝕄 :=
  match i with
  | 0 => pt c cc0_scratch1 fullShare (rowV X (peer 0 c))
  | 1 => pt c cc0_scratch3 fullShare (colV X (peer 1 c))
  | 2 => pt c cc0_scratch5 fullShare (corV X (peer 2 c))
  | 3 => st c (rowSet 1) fullShare (statsV X c)
  | 4 => st c (rowSet 2) fullShare (statsV X c)
  | 5 => st c (rowSet 3) fullShare (statsV X c)

/-- The credit of the copy of flow `i`. -/
def crd (i : Fin 6) : ℕ :=
  match i with
  | 0 => (Memref.whole cc0_scratch1 : Memref sig .tc .vmem S2x1x8192 .f32).view.dmaCredit
  | 1 => (Memref.whole cc0_scratch3 : Memref sig .tc .vmem S2x128x64 .f32).view.dmaCredit
  | 2 => (Memref.whole cc0_scratch5 : Memref sig .tc .vmem S2x1x64 .f32).view.dmaCredit
  | 3 => sl1.view.dmaCredit
  | 4 => sl2.view.dmaCredit
  | 5 => sl3.view.dmaCredit

/-- Every flow moves something. -/
theorem crd_pos (i : Fin 6) : 0 < crd i := by
  fin_cases i <;> exact View.dmaCredit_pos _ (by decide)

/-- Which flow a transfer semaphore counts, and on which side. -/
inductive Role where
  | bar
  | snd (i : Fin 6)
  | rcv (i : Fin 6)
  | none
  deriving DecidableEq

/-- What a semaphore is for. -/
def role (s : SemLoc sig) : Role :=
  match s with
  | .reg _ => .bar
  | .dma q => if h : 4 ≤ q.val ∧ q.val < 10 then .snd ⟨q.val - 4, by omega⟩
      else if h : 10 ≤ q.val ∧ q.val < 16 then .rcv ⟨q.val - 10, by omega⟩ else .none

/-- The barrier's role. -/
theorem role_bar : role (.reg barS) = .bar := rfl
/-- A send semaphore's role. -/
theorem role_send (i : Fin 6) : role (.dma (sendS i)) = .snd i := by revert i; decide
/-- A receive semaphore's role. -/
theorem role_recv (i : Fin 6) : role (.dma (recvS i)) = .rcv i := by revert i; decide

/-- Who pays a semaphore: three peers pay the barrier, one flow a transfer's semaphore. -/
def dutyOf (r : Role) : Finset (Fin 3) :=
  match r with
  | .bar => Finset.univ
  | .snd _ => {0}
  | .rcv _ => {0}
  | .none => ∅

/-- What each of them pays. -/
def amountOf' (r : Role) : ℕ :=
  match r with
  | .bar => 1
  | .snd i => crd i
  | .rcv i => crd i
  | .none => 1

/-- What each of them hands over with it. -/
def payOf (r : Role) (c : Dev nD) (d : Fin 3) : sProp 𝕄 :=
  match r with
  | .bar => barPay c d
  | .snd i => sendPay X i c
  | .rcv i => recvPay X i c
  | .none => iprop(emp)

/-- One round: three payers at the barrier, one at each transfer semaphore. -/
def Rd : Rounds.Schedule (GSem nD τ sig) (Fin 3) 𝕄 where
  duties g r := if r = 0 ∧ g.1.2 = .tc then dutyOf (role g.2) else ∅
  unitless _ := False
  amount g _ _ := amountOf' (role g.2)
  payload g _ d := payOf X (role g.2) g.1.1 d
  amount_pos g _ _ _ := by
    cases role g.2 with
    | bar => exact Nat.one_pos
    | snd i => exact crd_pos i
    | rcv i => exact crd_pos i
    | none => exact Nat.one_pos

/-- What is handed over may be kept in an invariant. -/
instance Rd_payload_storable (g : GSem nD τ sig) (r : ℕ) (d : Fin 3) :
    BI.Storable (upEmb : UEmb _ 𝕄) ((Rd X).payload g r d) := by
  show BI.Storable upEmb (payOf X (role g.2) g.1.1 d)
  cases role g.2 with
  | bar => unfold payOf barPay; fin_cases d <;> infer_instance
  | snd i => unfold payOf sendPay; fin_cases i <;> infer_instance
  | rcv i => unfold payOf recvPay; fin_cases i <;> infer_instance
  | none => unfold payOf; infer_instance

/-- A barrier has three payers. -/
theorem duties_bar (c : Dev nD) : (Rd X).duties (barCell c) 0 = Finset.univ := by
  dsimp only [Rd]; rw [if_pos ⟨rfl, rfl⟩]; rfl
/-- A send semaphore has one payer. -/
theorem duties_send (i : Fin 6) (c : Dev nD) : (Rd X).duties (sendCell i c) 0 = {0} := by
  dsimp only [Rd]; rw [if_pos ⟨rfl, rfl⟩, role_send]; rfl
/-- A receive semaphore has one payer. -/
theorem duties_recv (i : Fin 6) (c : Dev nD) : (Rd X).duties (recvCell i c) 0 = {0} := by
  dsimp only [Rd]; rw [if_pos ⟨rfl, rfl⟩, role_recv]; rfl
/-- After the one round nobody pays. -/
theorem duties_later (g : GSem nD τ sig) : ∀ r, 1 ≤ r → (Rd X).duties g r = ∅ :=
  fun r hr => by dsimp only [Rd]; rw [if_neg (fun h => by omega)]

/-- A signal is one unit. -/
theorem amount_bar (c : Dev nD) (d : Fin 3) : (Rd X).amount (barCell c) 0 d = 1 := rfl
/-- A send semaphore is paid the size of its flow. -/
theorem amount_send (i : Fin 6) (c : Dev nD) (d : Fin 3) : (Rd X).amount (sendCell i c) 0 d = crd i := by
  dsimp only [Rd]; rw [role_send]; rfl
/-- A receive semaphore is paid the size of its flow. -/
theorem amount_recv (i : Fin 6) (c : Dev nD) (d : Fin 3) : (Rd X).amount (recvCell i c) 0 d = crd i := by
  dsimp only [Rd]; rw [role_recv]; rfl

/-- A barrier expects three units in all. -/
theorem expect_bar (c : Dev nD) : (Rd X).expect (barCell c) 0 = 3 := by
  unfold Schedule.expect Schedule.amountOf; rw [duties_bar]; rfl
/-- A send semaphore expects the size of its flow. -/
theorem expect_send (i : Fin 6) (c : Dev nD) : (Rd X).expect (sendCell i c) 0 = crd i := by
  unfold Schedule.expect Schedule.amountOf; rw [duties_send, Finset.sum_singleton, amount_send]
/-- A receive semaphore expects the size of its flow. -/
theorem expect_recv (i : Fin 6) (c : Dev nD) : (Rd X).expect (recvCell i c) 0 = crd i := by
  unfold Schedule.expect Schedule.amountOf; rw [duties_recv, Finset.sum_singleton, amount_recv]

/-- What a signal hands over. -/
theorem payload_bar (c : Dev nD) (d : Fin 3) : (Rd X).payload (barCell c) 0 d = barPay c d := rfl
/-- What a finished send hands back. -/
theorem payload_send (i : Fin 6) (c : Dev nD) (d : Fin 3) : (Rd X).payload (sendCell i c) 0 d = sendPay X i c := by
  dsimp only [Rd]; rw [role_send]; rfl
/-- What an arrival hands over. -/
theorem payload_recv (i : Fin 6) (c : Dev nD) (d : Fin 3) : (Rd X).payload (recvCell i c) 0 d = recvPay X i c := by
  dsimp only [Rd]; rw [role_recv]; rfl

/-- What a wait at the barrier collects. -/
theorem rest_bar (c : Dev nD) : bigSep ((Rd X).duties (barCell c) 0 \ ∅) (fun d => (Rd X).payload (barCell c) 0 d)
    = iprop(barPay c 0 ∗ barPay c 1 ∗ barPay c 2) := by
  rw [Finset.sdiff_empty, duties_bar]
  show bigSep (Finset.univ : Finset (Fin 3)) (fun d => barPay c d) = _
  exact bigSep_univ_eq_bigSepL ([0, 1, 2] : List (Fin 3)) (by decide) (by decide) _
/-- What a wait for a send collects. -/
theorem rest_send (i : Fin 6) (c : Dev nD) : bigSep ((Rd X).duties (sendCell i c) 0 \ ∅) (fun d => (Rd X).payload (sendCell i c) 0 d)
    = sendPay X i c := by
  rw [Finset.sdiff_empty, duties_send, bigSep_singleton, payload_send]
/-- What a wait for an arrival collects. -/
theorem rest_recv (i : Fin 6) (c : Dev nD) : bigSep ((Rd X).duties (recvCell i c) 0 \ ∅) (fun d => (Rd X).payload (recvCell i c) 0 d)
    = recvPay X i c := by
  rw [Finset.sdiff_empty, duties_recv, bigSep_singleton, payload_recv]

end Sched

/-! ## What a core owes at launch; the levels -/

/-- The credits a device still owes once it has sent all but the last `n` blocks, last first. -/
def Ow0 (c : Dev nD) : CellTallies nD τ sig Unit := 0
/-- Before the last copy of the sums. -/
def Ow1 (c : Dev nD) : CellTallies nD τ sig Unit := Ow0 c + tallyAt (recvCell 5 (peer 2 c)) () (crd 5)
/-- Before the second copy of the sums. -/
def Ow2 (c : Dev nD) : CellTallies nD τ sig Unit := Ow1 c + tallyAt (recvCell 4 (peer 1 c)) () (crd 4)
/-- Before the first copy of the sums. -/
def Ow3 (c : Dev nD) : CellTallies nD τ sig Unit := Ow2 c + tallyAt (recvCell 3 (peer 0 c)) () (crd 3)
/-- Before the corner. -/
def Ow4 (c : Dev nD) : CellTallies nD τ sig Unit := Ow3 c + tallyAt (recvCell 2 (peer 2 c)) () (crd 2)
/-- Before the column. -/
def Ow5 (c : Dev nD) : CellTallies nD τ sig Unit := Ow4 c + tallyAt (recvCell 1 (peer 1 c)) () (crd 1)
/-- Before the row. -/
def Ow6 (c : Dev nD) : CellTallies nD τ sig Unit := Ow5 c + tallyAt (recvCell 0 (peer 0 c)) () (crd 0)
/-- Before the last signal. -/
def Ow7 (c : Dev nD) : CellTallies nD τ sig Unit := Ow6 c + tallyAt (barCell (peer 2 c)) () 1
/-- Before the second signal. -/
def Ow8 (c : Dev nD) : CellTallies nD τ sig Unit := Ow7 c + tallyAt (barCell (peer 1 c)) () 1
/-- At launch: one unit to each peer's barrier, and the six blocks. -/
def O₀ (c : Dev nD) : CellTallies nD τ sig Unit := Ow8 c + tallyAt (barCell (peer 0 c)) () 1

/-- The tallies a core keeps: one for each semaphore of its own. -/
def L (g : GSem nD τ sig) : Finset Unit := if g.1.2 = .tc then {()} else ∅
/-- Barriers below receive semaphores, both above everything else. -/
def lv (g : GSem nD τ sig) (_ : Unit) : ℕ :=
  match role g.2 with
  | .bar => 1
  | .rcv _ => 2
  | _ => 0

/-- No other processor keeps any. -/
theorem L_of_ne (g : GSem nD τ sig) (h : g.1.2 ≠ .tc) : L g = ∅ := if_neg h
/-- A core keeps one for each. -/
theorem L_tc (c : Dev nD) (sm : SemLoc sig) : L ((c : Thread nD τ), sm) = {()} := if_pos rfl
/-- The barrier's level. -/
theorem lv_bar (c : Dev nD) (u : Unit) : lv (barCell c) u = 1 := rfl
/-- A receive semaphore's level. -/
theorem lv_recv (i : Fin 6) (c : Dev nD) (u : Unit) : lv (recvCell i c) u = 2 := by unfold lv; rw [role_recv]

/-- What is owed after one more debt was owed before, or is that debt. -/
theorem add_tally_pos {O : CellTallies nD τ sig Unit} {g g' : GSem nD τ sig} {n : ℕ} {u : Unit} (h : 0 < (O + tallyAt g' () n) g u) :
    0 < O g u ∨ g = g' := by
  rw [Pi.add_apply, Finsupp.add_apply, tallyAt_apply] at h
  by_contra hn; rw [not_or] at hn
  rw [if_neg (fun h' => hn.2 h'.1)] at h
  exact hn.1 h

/-- Once the signals are paid, only receive semaphores are owed. -/
theorem Ow6_pos {c : Dev nD} {g : GSem nD τ sig} {u : Unit} (h : 0 < Ow6 c g u) : ∃ i d, g = recvCell i d := by
  rcases add_tally_pos h with h | h
  · rcases add_tally_pos h with h | h
    · rcases add_tally_pos h with h | h
      · rcases add_tally_pos h with h | h
        · rcases add_tally_pos h with h | h
          · rcases add_tally_pos h with h | h
            · exact absurd h (Nat.lt_irrefl 0)
            · exact ⟨_, _, h⟩
          · exact ⟨_, _, h⟩
        · exact ⟨_, _, h⟩
      · exact ⟨_, _, h⟩
    · exact ⟨_, _, h⟩
  · exact ⟨_, _, h⟩

/-- At launch only barriers and receive semaphores are owed. -/
theorem O₀_pos {c : Dev nD} {g : GSem nD τ sig} {u : Unit} (h : 0 < O₀ c g u) : (∃ i d, g = recvCell i d) ∨ ∃ d, g = barCell d := by
  rcases add_tally_pos h with h | h
  · rcases add_tally_pos h with h | h
    · rcases add_tally_pos h with h | h
      · exact .inl (Ow6_pos h)
      · exact .inr ⟨_, h⟩
    · exact .inr ⟨_, h⟩
  · exact .inr ⟨_, h⟩

/-- At its barrier a device owes only receive semaphores, above it. -/
theorem mayWait_bar (c : Dev nD) : (levAts L lv : sProp 𝕄) ⊢ MayWait (c : Thread nD τ) (.reg barS) () (Ow6 c) :=
  MayOwe.of_cut (L := L) (lev := lv) 1 (fun p hp => by rw [Finset.mem_singleton.mp hp, L_tc]; exact Finset.mem_singleton_self _)
    (fun g u hg => by obtain ⟨i, d, rfl⟩ := Ow6_pos hg; exact Finset.mem_singleton_self _)
    (fun p hp => by rw [Finset.mem_singleton.mp hp]; rfl)
    (fun g u hg => by obtain ⟨i, d, rfl⟩ := Ow6_pos hg; rw [lv_recv]; decide)

end Cert.KernelIdeal.Halo
-- ==== Proof.Views.lean ====
/-
  What the loads, the stores and the landed copies of the kernel read and leave, as plain functions of the contents.
-/
module

public import proofs.«01_k».proof.Proof.Common

@[expose] public section

noncomputable section

namespace Cert.KernelIdeal.Halo

open Cert.KernelIdeal Cert.KernelIdeal.Gen

open Idealize.ShloMosaic
open Idealize.ShloMosaic.TcCoe
open Idealize.SL.Sem
open Idealize.ShloMosaic.ValueIdx

variable {F : FTy → Type} [FloatOps F]

/-! ## Loads -/

/-- Image `k` of a batch of two, as a block with a leading unit axis. -/
def plane {a b : ℕ} {α : Type} (k : Fin 2) (f : (⟨3, ![2, a, b]⟩ : Shape).Idx → α) : (⟨3, ![1, a, b]⟩ : Shape).Idx → α :=
  fun i => f (ix3 k (i 1) (i 2))

/-- Row `j` of the statistics, as a block with a leading unit axis. -/
def statRow {α : Type} (j : Fin 4) (f : S4x2x2x64.Idx → α) : S1x2x2x64.Idx → α :=
  fun i => f (ix4 j (i 1) (i 2) (i 3))

/-- Where the rectangle of image `K` lies in a block. -/
theorem idx_plane {a b : ℕ} (k : ℕ) (K : Fin 2) (hK : K.val = k) (inb) (i : (⟨3, ![1, a, b]⟩ : Shape).Idx) :
    (Rect.unit (s := (⟨3, ![2, a, b]⟩ : Shape)) ![k, 0, 0] (⟨3, ![1, a, b]⟩ : Shape).size inb).toLoadRect.idx i = ix3 K (i 1) (i 2) := by
  funext d
  have h0 : (i 0).val < 1 := (i 0).isLt
  fin_cases d
  · refine Fin.ext ?_; show k + 1 * (i 0).val = K.val; omega
  · refine Fin.ext ?_; show 0 + 1 * (i 1).val = (i 1).val; omega
  · refine Fin.ext ?_; show 0 + 1 * (i 2).val = (i 2).val; omega

/-- Where the rectangle of row `J` lies in the statistics. -/
theorem idx_statRow (j : ℕ) (J : Fin 4) (hJ : J.val = j) (inb) (i : S1x2x2x64.Idx) :
    (Rect.unit (s := S4x2x2x64) ![j, 0, 0, 0] S1x2x2x64.size inb).toLoadRect.idx i = ix4 J (i 1) (i 2) (i 3) := by
  funext d
  have h0 : (i 0).val < 1 := (i 0).isLt
  fin_cases d
  · refine Fin.ext ?_; show j + 1 * (i 0).val = J.val; omega
  · refine Fin.ext ?_; show 0 + 1 * (i 1).val = (i 1).val; omega
  · refine Fin.ext ?_; show 0 + 1 * (i 2).val = (i 2).val; omega
  · refine Fin.ext ?_; show 0 + 1 * (i 3).val = (i 3).val; omega

section Reads
variable (f : S2x128x8192.Idx → Elt F .f32)

/-- A load of the input block's image 0. -/
theorem ld_x0 : (Memref.whole cc0_stg0_0 : Memref sig .tc .vmem S2x128x8192 .f32).view.readAt (Elt F)
    (Rect.unit (s := S2x128x8192) ![0, 0, 0] S1x128x8192.size inb_S2x128x8192_S1x128x8192_0_0_0).toLoadRect f = plane 0 f :=
  funext fun i => congrArg f (idx_plane 0 0 rfl _ i)
/-- A load of the input block's image 1. -/
theorem ld_x1 : (Memref.whole cc0_stg0_0 : Memref sig .tc .vmem S2x128x8192 .f32).view.readAt (Elt F)
    (Rect.unit (s := S2x128x8192) ![1, 0, 0] S1x128x8192.size inb_S2x128x8192_S1x128x8192_1_0_0).toLoadRect f = plane 1 f :=
  funext fun i => congrArg f (idx_plane 1 1 rfl _ i)
/-- A load of the received row's image 0. -/
theorem ld_r0 (f : S2x1x8192.Idx → Elt F .f32) : (Memref.whole cc0_scratch1 : Memref sig .tc .vmem S2x1x8192 .f32).view.readAt (Elt F)
    (Rect.unit (s := S2x1x8192) ![0, 0, 0] S1x1x8192.size inb_S2x1x8192_S1x1x8192_0_0_0).toLoadRect f = plane 0 f :=
  funext fun i => congrArg f (idx_plane 0 0 rfl _ i)
/-- A load of the received row's image 1. -/
theorem ld_r1 (f : S2x1x8192.Idx → Elt F .f32) : (Memref.whole cc0_scratch1 : Memref sig .tc .vmem S2x1x8192 .f32).view.readAt (Elt F)
    (Rect.unit (s := S2x1x8192) ![1, 0, 0] S1x1x8192.size inb_S2x1x8192_S1x1x8192_1_0_0).toLoadRect f = plane 1 f :=
  funext fun i => congrArg f (idx_plane 1 1 rfl _ i)
/-- A load of the received column's image 0. -/
theorem ld_c0 (f : S2x128x64.Idx → Elt F .f32) : (Memref.whole cc0_scratch3 : Memref sig .tc .vmem S2x128x64 .f32).view.readAt (Elt F)
    (Rect.unit (s := S2x128x64) ![0, 0, 0] S1x128x64.size inb_S2x128x64_S1x128x64_0_0_0).toLoadRect f = plane 0 f :=
  funext fun i => congrArg f (idx_plane 0 0 rfl _ i)
/-- A load of the received column's image 1. -/
theorem ld_c1 (f : S2x128x64.Idx → Elt F .f32) : (Memref.whole cc0_scratch3 : Memref sig .tc .vmem S2x128x64 .f32).view.readAt (Elt F)
    (Rect.unit (s := S2x128x64) ![1, 0, 0] S1x128x64.size inb_S2x128x64_S1x128x64_1_0_0).toLoadRect f = plane 1 f :=
  funext fun i => congrArg f (idx_plane 1 1 rfl _ i)
/-- A load of the received corner's image 0. -/
theorem ld_q0 (f : S2x1x64.Idx → Elt F .f32) : (Memref.whole cc0_scratch5 : Memref sig .tc .vmem S2x1x64 .f32).view.readAt (Elt F)
    (Rect.unit (s := S2x1x64) ![0, 0, 0] S1x1x64.size inb_S2x1x64_S1x1x64_0_0_0).toLoadRect f = plane 0 f :=
  funext fun i => congrArg f (idx_plane 0 0 rfl _ i)
/-- A load of the received corner's image 1. -/
theorem ld_q1 (f : S2x1x64.Idx → Elt F .f32) : (Memref.whole cc0_scratch5 : Memref sig .tc .vmem S2x1x64 .f32).view.readAt (Elt F)
    (Rect.unit (s := S2x1x64) ![1, 0, 0] S1x1x64.size inb_S2x1x64_S1x1x64_1_0_0).toLoadRect f = plane 1 f :=
  funext fun i => congrArg f (idx_plane 1 1 rfl _ i)
/-- A load of row 0 of the statistics. -/
theorem ld_s0 (f : S4x2x2x64.Idx → Elt F .f32) : stM.view.readAt (Elt F)
    (Rect.unit (s := S4x2x2x64) ![0, 0, 0, 0] S1x2x2x64.size inb_S4x2x2x64_S1x2x2x64_0_0_0_0).toLoadRect f = statRow 0 f :=
  funext fun i => congrArg f (idx_statRow 0 0 rfl _ i)
/-- A load of row 1 of the statistics. -/
theorem ld_s1 (f : S4x2x2x64.Idx → Elt F .f32) : stM.view.readAt (Elt F)
    (Rect.unit (s := S4x2x2x64) ![1, 0, 0, 0] S1x2x2x64.size inb_S4x2x2x64_S1x2x2x64_1_0_0_0).toLoadRect f = statRow 1 f :=
  funext fun i => congrArg f (idx_statRow 1 1 rfl _ i)
/-- A load of row 2 of the statistics. -/
theorem ld_s2 (f : S4x2x2x64.Idx → Elt F .f32) : stM.view.readAt (Elt F)
    (Rect.unit (s := S4x2x2x64) ![2, 0, 0, 0] S1x2x2x64.size inb_S4x2x2x64_S1x2x2x64_2_0_0_0).toLoadRect f = statRow 2 f :=
  funext fun i => congrArg f (idx_statRow 2 2 rfl _ i)
/-- A load of row 3 of the statistics. -/
theorem ld_s3 (f : S4x2x2x64.Idx → Elt F .f32) : stM.view.readAt (Elt F)
    (Rect.unit (s := S4x2x2x64) ![3, 0, 0, 0] S1x2x2x64.size inb_S4x2x2x64_S1x2x2x64_3_0_0_0).toLoadRect f = statRow 3 f :=
  funext fun i => congrArg f (idx_statRow 3 3 rfl _ i)
end Reads

/-! ## What the kernel computes from what it has loaded -/

section Pieces

variable (a b : BitVec 1) (s0 s1 s2 s3 : S1x2x2x64.Idx → Elt F .f32) (kk : S3x3x64.Idx → Elt F .f32) (ww : S64x64.Idx → Elt F .f32)
  (xb : S1x128x8192.Idx → Elt F .f32) (rb : S1x1x8192.Idx → Elt F .f32) (cb : S1x128x64.Idx → Elt F .f32) (qb : S1x1x64.Idx → Elt F .f32)

/-- The means, from the four devices' moments. -/
def meanOf : FVec F S2x64 .f32 := k0_pay11 (k0_pay9 s0 s1) s2 s3
/-- The inverse deviations. -/
def rstdOf : FVec F S2x64 .f32 := k0_pay12 (k0_pay9 s0 s1) s2 s3

/-- What is stored for the first image. -/
def outP0 : S1x128x8192.Idx → Elt F .f32 :=
  k0_pay36 (rstdOf s0 s1 s2 s3) (k0_pay14 kk) (k0_pay25 ww) (k0_pay26 xb)
    (k0_pay34 a b (k0_pay15 kk) (k0_pay16 kk) (k0_pay17 kk) (k0_pay18 kk) (k0_pay20 (k0_pay19 kk)) (k0_pay21 (k0_pay13 kk)) (k0_pay22 (k0_pay13 kk))
      (k0_pay23 (k0_pay13 kk)) (k0_pay24 (k0_pay13 kk)) (k0_pay26 xb) (k0_pay27 rb) (k0_pay29 qb) (k0_pay30 b xb cb) (k0_pay31 b xb cb)
      (k0_pay32 a xb rb) (k0_pay33 a xb rb))
    (k0_pay35 (meanOf s0 s1 s2 s3))

/-- What is stored for the second image. -/
def outP1 : S1x128x8192.Idx → Elt F .f32 :=
  k0_pay47 (meanOf s0 s1 s2 s3) (rstdOf s0 s1 s2 s3) (k0_pay14 kk) (k0_pay25 ww) (k0_pay37 xb)
    (k0_pay45 a b (k0_pay15 kk) (k0_pay16 kk) (k0_pay17 kk) (k0_pay18 kk) (k0_pay20 (k0_pay19 kk)) (k0_pay21 (k0_pay13 kk)) (k0_pay22 (k0_pay13 kk))
      (k0_pay23 (k0_pay13 kk)) (k0_pay37 xb) (k0_pay38 rb) (k0_pay40 qb) (k0_pay41 b xb cb) (k0_pay42 b xb cb) (k0_pay43 xb))
    (k0_pay46 a b (k0_pay24 (k0_pay13 kk)) (k0_pay37 xb) (k0_pay38 rb) (k0_pay40 qb) (k0_pay41 b xb cb) (k0_pay42 b xb cb) (k0_pay43 xb))

end Pieces

section Out

variable (X : Dev nD → (cc0_stg0_0 : Ref sig .tc).ty.Contents (Elt F)) (kk : S3x3x64.Idx → Elt F .f32) (ww : S64x64.Idx → Elt F .f32)

/-- What device `c` stores for image 0. -/
def out0 (c : Dev nD) : S1x128x8192.Idx → Elt F .f32 :=
  outP0 (onx c) (ony c) (statRow 0 (statsV X c)) (statRow 1 (statsV X c)) (statRow 2 (statsV X c)) (statRow 3 (statsV X c)) kk ww
    (plane 0 (X c)) (plane 0 (rowV X (peer 0 c))) (plane 0 (colV X (peer 1 c))) (plane 0 (corV X (peer 2 c)))
/-- What device `c` stores for image 1. -/
def out1 (c : Dev nD) : S1x128x8192.Idx → Elt F .f32 :=
  outP1 (onx c) (ony c) (statRow 0 (statsV X c)) (statRow 1 (statsV X c)) (statRow 2 (statsV X c)) (statRow 3 (statsV X c)) kk ww
    (plane 1 (X c)) (plane 1 (rowV X (peer 0 c))) (plane 1 (colV X (peer 1 c))) (plane 1 (corV X (peer 2 c)))

/-- What the output block of device `c` holds at the end. -/
def outV (c : Dev nD) : S2x128x8192.Idx → Elt F .f32 := fun i =>
  if (i 0).val = 0 then out0 X kk ww c (ix3 0 (i 1) (i 2)) else out1 X kk ww c (ix3 0 (i 1) (i 2))

end Out

/-! ## Stores -/

/-- The output's staging buffer, whole. -/
abbrev oM : Memref sig .tc .vmem S2x128x8192 .f32 := Memref.whole cc0_stg3_0
/-- Its first image. -/
abbrev rO0 : Rect S2x128x8192 := Rect.unit (s := S2x128x8192) ![0, 0, 0] S1x128x8192.size inb_S2x128x8192_S1x128x8192_0_0_0
/-- Its second image. -/
abbrev rO1 : Rect S2x128x8192 := Rect.unit (s := S2x128x8192) ![1, 0, 0] S1x128x8192.size inb_S2x128x8192_S1x128x8192_1_0_0

/-- The element a store of one image writes at `i`. -/
theorem emb_o0 (i : S1x128x8192.Idx) : (oM.access rO0).emb i = (ix3 0 (i 1) (i 2) : S2x128x8192.Idx) := idx_plane 0 0 rfl _ i
/-- The same for the second image. -/
theorem emb_o1 (i : S1x128x8192.Idx) : (oM.access rO1).emb i = (ix3 1 (i 1) (i 2) : S2x128x8192.Idx) := idx_plane 1 1 rfl _ i

/-- The two stores of images cover the output block. -/
theorem st_out (g : S2x128x8192.Idx → Elt F .f32) (p q : S1x128x8192.Idx → Elt F .f32) :
    (oM.access rO1).write (Elt F) ((oM.access rO0).write (Elt F) g p Finset.univ) q Finset.univ
      = fun i : S2x128x8192.Idx => if (i 0).val = 0 then p (ix3 0 (i 1) (i 2)) else q (ix3 0 (i 1) (i 2)) := by
  funext i
  have h2 : (i 0).val < 2 := (i 0).isLt
  by_cases h : (i 0).val = 0
  · rw [if_pos h, View.write_of_not_mem]
    · have e : i = (oM.access rO0).emb (ix3 0 (i 1) (i 2) : S1x128x8192.Idx) := by
        rw [emb_o0]; funext d
        fin_cases d
        · exact Fin.ext h
        · rfl
        · rfl
      exact (congrArg _ e).trans (View.write_emb_of_mem _ _ (Finset.mem_univ _))
    · intro hm
      obtain ⟨x, -, hx⟩ := Finset.mem_map.mp hm
      rw [emb_o1] at hx
      have := congrArg (fun j : S2x128x8192.Idx => (j 0).val) hx
      have h1 : (1 : ℕ) = (i 0).val := this
      omega
  · rw [if_neg h]
    have e : i = (oM.access rO1).emb (ix3 0 (i 1) (i 2) : S1x128x8192.Idx) := by
      rw [emb_o1]; funext d
      fin_cases d
      · refine Fin.ext ?_; show (i 0).val = 1; omega
      · rfl
      · rfl
    exact (congrArg _ e).trans (View.write_emb_of_mem _ _ (Finset.mem_univ _))

/-- The place of the device's own sums. -/
abbrev rS0 : Rect S4x2x2x64 := Rect.unit (s := S4x2x2x64) ![0, 0, 0, 0] S1x1x2x64.size inb_S4x2x2x64_S1x1x2x64_0_0_0_0
/-- The place of its own sums of squares. -/
abbrev rS1 : Rect S4x2x2x64 := Rect.unit (s := S4x2x2x64) ![0, 1, 0, 0] S1x1x2x64.size inb_S4x2x2x64_S1x1x2x64_0_1_0_0

/-- Where the rectangle of kind `K` lies in row 0. -/
theorem idx_kind (k : ℕ) (K : Fin 2) (hK : K.val = k) (inb) (i : S1x1x2x64.Idx) :
    (Rect.unit (s := S4x2x2x64) ![0, k, 0, 0] S1x1x2x64.size inb).toLoadRect.idx i = ix4 0 K (i 2) (i 3) := by
  funext d
  have h0 : (i 0).val < 1 := (i 0).isLt
  have h1 : (i 1).val < 1 := (i 1).isLt
  fin_cases d
  · refine Fin.ext ?_; show 0 + 1 * (i 0).val = 0; omega
  · refine Fin.ext ?_; show k + 1 * (i 1).val = K.val; omega
  · refine Fin.ext ?_; show 0 + 1 * (i 2).val = (i 2).val; omega
  · refine Fin.ext ?_; show 0 + 1 * (i 3).val = (i 3).val; omega

/-- The element a store of sums writes at `i`. -/
theorem emb_s0 (i : S1x1x2x64.Idx) : (stM.access rS0).emb i = (ix4 0 0 (i 2) (i 3) : S4x2x2x64.Idx) := idx_kind 0 0 rfl _ i
/-- The element a store of sums of squares writes at `i`. -/
theorem emb_s1 (i : S1x1x2x64.Idx) : (stM.access rS1).emb i = (ix4 0 1 (i 2) (i 3) : S4x2x2x64.Idx) := idx_kind 1 1 rfl _ i

/-- The two stores of moments stay in row 0 … -/
theorem sub_s0 : (stM.access rS0).setOn Finset.univ ⊆ rowSet 0 := by
  intro i hi; obtain ⟨x, -, rfl⟩ := Finset.mem_map.mp hi
  rw [mem_rowSet, emb_s0]
/-- So does the second of them. -/
theorem sub_s1 : (stM.access rS1).setOn Finset.univ ⊆ rowSet 0 := by
  intro i hi; obtain ⟨x, -, rfl⟩ := Finset.mem_map.mp hi
  rw [mem_rowSet, emb_s1]

/-- … and fill it with the device's own. -/
theorem st_stats (X : Dev nD → (cc0_stg0_0 : Ref sig .tc).ty.Contents (Elt F)) (c : Dev nD) (g : S4x2x2x64.Idx → Elt F .f32) :
    ∀ i ∈ rowSet 0, (stM.access rS1).write (Elt F) ((stM.access rS0).write (Elt F) g (k0_pay7 (k0_pay1 (X c))) Finset.univ)
      (k0_pay8 (k0_pay1 (X c))) Finset.univ i = statsV X c i := by
  intro i hi
  rw [mem_rowSet] at hi
  have e0 : i 0 = (0 : Fin 4) := Fin.ext hi
  have h2 : (i 1).val < 2 := (i 1).isLt
  have hw : statsV X c i = own X c (i 1) (i 2) (i 3) := by
    unfold statsV; rw [e0]; rfl
  rw [hw]; unfold own
  by_cases h : (i 1).val = 0
  · rw [if_pos h, View.write_of_not_mem]
    · have e : i = (stM.access rS0).emb (ix4 0 0 (i 2) (i 3) : S1x1x2x64.Idx) := by
        rw [emb_s0]; funext d
        fin_cases d
        · exact e0
        · exact Fin.ext h
        · rfl
        · rfl
      exact (congrArg _ e).trans (View.write_emb_of_mem _ _ (Finset.mem_univ _))
    · intro hm
      obtain ⟨x, -, hx⟩ := Finset.mem_map.mp hm
      rw [emb_s1] at hx
      have h1 : (1 : ℕ) = (i 1).val := congrArg (fun j : S4x2x2x64.Idx => (j 1).val) hx
      omega
  · rw [if_neg h]
    have e : i = (stM.access rS1).emb (ix4 0 0 (i 2) (i 3) : S1x1x2x64.Idx) := by
      rw [emb_s1]; funext d
      fin_cases d
      · exact e0
      · refine Fin.ext ?_; show (i 1).val = 1; omega
      · rfl
      · rfl
    exact (congrArg _ e).trans (View.write_emb_of_mem _ _ (Finset.mem_univ _))

/-! ## Landed copies -/

/-- A row of the statistics, as its memref indexes it. -/
theorem emb_row (j : ℕ) (inb) (x : S2x2x64.Idx) :
    ((stM.slice (Rect.unit (s := S4x2x2x64) ![j, 0, 0, 0] S1x2x2x64.size inb) (fun _ => rfl)).squeeze S2x2x64 squeezes_S1x2x2x64_S2x2x64).view.emb x
      = (Rect.unit (s := S4x2x2x64) ![j, 0, 0, 0] S1x2x2x64.size inb).toLoadRect.idx
          (Shape.reshapeEquiv squeezes_S1x2x2x64_S2x2x64.numel_eq x) := rfl

/-- The moments of `c`, copied into row `j` of the statistics of the device `d` that keeps them there. -/
theorem land_row (X : Dev nD → (cc0_stg0_0 : Ref sig .tc).ty.Contents (Elt F)) (j : ℕ) (J : Fin 4) (hJ : J.val = j) (inb) (c d : Dev nD)
    (h : who J d = c) (fd : S4x2x2x64.Idx → Elt F .f32) : ∀ i ∈ rowSet J,
    ((stM.slice (Rect.unit (s := S4x2x2x64) ![j, 0, 0, 0] S1x2x2x64.size inb) (fun _ => rfl)).squeeze S2x2x64 squeezes_S1x2x2x64_S2x2x64).view.write (Elt F) fd
      (sl0.view.read (Elt F) (statsV X c)) Finset.univ i = statsV X d i := by
  intro i hi
  have hs : ((stM.slice (Rect.unit (s := S4x2x2x64) ![j, 0, 0, 0] S1x2x2x64.size inb) (fun _ => rfl)).squeeze S2x2x64 squeezes_S1x2x2x64_S2x2x64).view.set
      = rowSet J := (View.set_reshape _ _).trans ((View.set_slice_whole cc0_scratch6 _).trans (row_unit j J hJ _))
  rw [← hs] at hi
  obtain ⟨x, -, rfl⟩ := Finset.mem_map.mp hi
  refine (View.write_emb_of_mem _ _ (Finset.mem_univ _)).trans ?_
  show statsV X c (sl0.view.emb x) = _
  rw [emb_row, emb_row]
  generalize Shape.reshapeEquiv squeezes_S1x2x2x64_S2x2x64.numel_eq x = y
  rw [idx_statRow 0 0 rfl, idx_statRow j J hJ]
  show own X (who 0 c) _ _ _ = own X (who J d) _ _ _
  rw [h]; rfl

end Cert.KernelIdeal.Halo
-- ==== Proof.Steps.lean ====
/-
  The steps of one device: its sends, its waits and the closing of its semaphores, each from the shared record of the
  schedule's invariants.
-/
module

public import proofs.«01_k».proof.Proof.Views

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

/-! ## The cells of the schedule -/

/-- The transfer semaphores, those of the sends first. -/
def osem (k : Fin 12) : SemLoc sig := .dma ⟨4 + k.val, by show _ < 16; omega⟩

/-- Different positions are different semaphores. -/
theorem osem_inj : Function.Injective osem := by
  intro a b h
  have h' := SemLoc.dma.inj h
  have : 4 + a.val = 4 + b.val := congrArg Fin.val h'
  exact Fin.ext (by omega)

/-- Each device's barrier. -/
def barEmb : Dev nD ↪ GSem nD τ sig := ⟨fun c => barCell c, fun a b h => by
  have h1 : ((a : Dev nD) : Thread nD τ) = ((b : Dev nD) : Thread nD τ) := congrArg Prod.fst h
  exact congrArg Prod.fst h1⟩
/-- Each device's transfer semaphores. -/
def scEmb : Dev nD × Fin 12 ↪ GSem nD τ sig := ⟨fun p => (((p.1 : Dev nD) : Thread nD τ), osem p.2), fun a b h => by
  have h1 : ((a.1 : Dev nD) : Thread nD τ) = ((b.1 : Dev nD) : Thread nD τ) := congrArg Prod.fst h
  have h2 : osem a.2 = osem b.2 := congrArg Prod.snd h
  have h3 : a.1 = b.1 := congrArg (fun t : Thread nD τ => t.1) h1
  exact Prod.ext h3 (osem_inj h2)⟩

/-- All barriers. -/
def barCells : Finset (GSem nD τ sig) := Finset.univ.map barEmb
/-- All transfer semaphores. -/
def scCells : Finset (GSem nD τ sig) := Finset.univ.map scEmb

/-- A device's barrier is among them. -/
theorem bar_mem (c : Dev nD) : barCell c ∈ barCells := Finset.mem_map.mpr ⟨c, Finset.mem_univ _, rfl⟩
/-- The first six are those of the sends. -/
theorem osem_send (i : Fin 6) : osem ⟨i.val, by omega⟩ = .dma (sendS i) := rfl
/-- The last six are those of the receives. -/
theorem osem_recv (i : Fin 6) : osem ⟨6 + i.val, by omega⟩ = .dma (recvS i) := by
  unfold osem; refine congrArg SemLoc.dma (Fin.ext ?_); show 4 + (6 + i.val) = 10 + i.val; omega
/-- A send semaphore is a transfer semaphore. -/
theorem send_mem (i : Fin 6) (c : Dev nD) : sendCell i c ∈ scCells :=
  Finset.mem_map.mpr ⟨(c, ⟨i.val, by omega⟩), Finset.mem_univ _, rfl⟩
/-- A receive semaphore is a transfer semaphore. -/
theorem recv_mem (i : Fin 6) (c : Dev nD) : recvCell i c ∈ scCells :=
  Finset.mem_map.mpr ⟨(c, ⟨6 + i.val, by omega⟩), Finset.mem_univ _, Prod.ext rfl (osem_recv i)⟩

/-! ## The record -/

section Rec

variable (X : Dev nD → (cc0_stg0_0 : Ref sig .tc).ty.Contents (Elt F)) (κ : GSem nD τ sig → ℕ)

/-- Every cell's invariant, and that every barrier is at its first round. -/
def records : sProp 𝕄 :=
  iprop(bigSep (barCells ∪ scCells) (fun g => cellInv ER (Rd X) (κ g) g) ∗ bigSep barCells (fun g => reached ER g 0))

/-- The record can be used any number of times. -/
instance records_persistent : BI.Persistent (records X κ : sProp 𝕄) := by unfold records; infer_instance

/-- The record has each cell's invariant. -/
theorem inv_at {g : GSem nD τ sig} (h : g ∈ barCells ∪ scCells) : (records X κ : sProp 𝕄) ⊢ cellInv ER (Rd X) (κ g) g := by
  unfold records; exact sep_elim_left.trans (bigSep_elim h)
/-- In particular a barrier's. -/
theorem inv_bar (c : Dev nD) : (records X κ : sProp 𝕄) ⊢ cellInv ER (Rd X) (κ (barCell c)) (barCell c) :=
  inv_at X κ (Finset.mem_union_left _ (bar_mem c))
/-- In particular a send semaphore's. -/
theorem inv_send (i : Fin 6) (c : Dev nD) : (records X κ : sProp 𝕄) ⊢ cellInv ER (Rd X) (κ (sendCell i c)) (sendCell i c) :=
  inv_at X κ (Finset.mem_union_right _ (send_mem i c))
/-- In particular a receive semaphore's. -/
theorem inv_recv (i : Fin 6) (c : Dev nD) : (records X κ : sProp 𝕄) ⊢ cellInv ER (Rd X) (κ (recvCell i c)) (recvCell i c) :=
  inv_at X κ (Finset.mem_union_right _ (recv_mem i c))
/-- Every barrier is at its first round. -/
theorem reached_bar (c : Dev nD) : (records X κ : sProp 𝕄) ⊢ reached ER (barCell c) 0 := by
  unfold records; exact sep_elim_right.trans (bigSep_elim (bar_mem c))

/-! ## Steps -/

/-- A send of flow `i` to peer `p`: the source goes with it, the landing buffer is made ready to be handed over rewritten. -/
theorem step_send {s : Shape} (i : Fin 6) (p : Fin 3) (c n : Dev nD) (hn : n = peer p c) (src dst : Memref sig .tc .vmem s .f32) {hsc : (dst : Memref sig (Dev.tc n : Thread nD τ).2.kind .vmem s .f32).view.ref.isScScratch = false}
    {hsrc : src.view.WordExact} {hdst : dst.view.WordExact}
    {hsem : DmaTarget.Typed .vmem (.dma (recvS i)) (.remote (Dev.tc n : Thread nD τ) (dst : Memref sig .tc .vmem s .f32) (.dma (sendS i)) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (peer p c : Thread nD τ)))
    (O O' : CellTallies nD τ sig Unit) (W : Waits sig Unit) (hN : dst.view.dmaCredit = crd i)
    (hO : O = O' + tallyAt (recvCell i (peer p c)) () (crd i))
    (hpay₁ : (src.view.loc (c : Thread nD τ) ↦[src.view.set]{q} fs) ⊢ sendPay X i c)
    (hpay₂ : (dst.view.loc (peer p c : Thread nD τ) ↦[dst.view.set]{fullShare} (dst.view.write (Elt F) fd (src.view.read (Elt F) fs) Finset.univ))
      ⊢ recvPay X i (peer p c)) :
    iprop(records X κ ∗ (src.view.loc (c : Thread nD τ) ↦[src.view.set]{q} fs)
        ∗ (dst.view.loc (peer p c : Thread nD τ) ↦[dst.view.set]{fullShare} fd) ∗ owes (c : Thread nD τ) O W
        ∗ dutyTok ER (sendCell i c) 0 0 ∗ reached ER (sendCell i c) 0 ∗ dutyTok ER (recvCell i (peer p c)) 0 0 ∗ reached ER (recvCell i (peer p c)) 0)
      ⊢ iprop(((cred (tallyAt (sendCell i c) () (crd i)) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sendS i)) hsc) (.dma (recvS i)) hsrc hdst hsem) k) Q) := by
  subst hn
  iintro ⟨#Hrec, Hs, Hd, HO, Ht1, #Hr1, Ht2, #Hr2⟩ Hk
  ihave #HI1 := (inv_send X κ i c) $$ Hrec
  ihave #HI2 := (inv_recv X κ i (peer p c)) $$ Hrec
  iapply (Rounds.wp_send_pointsTo 𝒱₀ ER (Rd X) (c : Thread nD τ) none (κ₁ := κ (sendCell i c)) (κ₂ := κ (recvCell i (peer p c)))
    (r₁ := 0) (r₂ := 0) (d₁ := 0) (d₂ := 0) (fd := fd)
    (by rw [duties_send]; exact Finset.mem_singleton_self _) (by rw [duties_recv]; exact Finset.mem_singleton_self _)
    () () (crd i) (show dst.view.amount (.dma (recvS i)) = crd i from hN) (amount_send X i c 0) (amount_recv X i (peer p c) 0) O' hO (W := W)
    (by rw [payload_send]; exact hpay₁) (by rw [payload_recv]; exact hpay₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iexact Hk

/-- A wait on a transfer semaphore, owing nothing. -/
theorem step_wait (c : Dev nD) (sm : DmaSem sig) (n : ℕ) (P : sProp 𝕄) (hg : ((c : Thread nD τ), SemLoc.dma sm) ∈ barCells ∪ scCells)
    (hx : (Rd X).expect ((c : Thread nD τ), SemLoc.dma sm) 0 = n)
    (hP : bigSep ((Rd X).duties ((c : Thread nD τ), SemLoc.dma sm) 0 \ ∅) (fun d => (Rd X).payload ((c : Thread nD τ), SemLoc.dma sm) 0 d) = P) (W : Waits sig Unit)
    {s : Shape} {src dst : Memref sig .tc .vmem s .f32} {hsrc : src.view.WordExact} {hdst : dst.view.WordExact} (hN : dst.view.dmaCredit = n)
    {α : Type} {Q : α → sProp 𝕄} {k : PUnit → Prog (TpuEff nD τ sig (Elt F) Λ₀ .tc) α} :
    iprop(records X κ ∗ cred (tallyAt ((c : Thread nD τ), SemLoc.dma sm) () n) ∗ owes (c : Thread nD τ) 0 W ∗ atPos ER ((c : Thread nD τ), SemLoc.dma sm) 0 ∅ 0)
      ⊢ iprop(((owes (c : Thread nD τ) 0 (insert (SemLoc.dma sm, ()) W) ∗ atPos ER ((c : Thread nD τ), SemLoc.dma sm) (0 + 1) ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hN
  iintro ⟨#Hrec, Hc, HO, Hat⟩ Hk
  ihave #HI := (inv_at X κ hg) $$ Hrec
  iapply (Rounds.wp_wait_rest_token 𝒱₀ ER (Rd X) (c : Thread nD τ) none (κ := κ ((c : Thread nD τ), SemLoc.dma sm))
      (wpE_waitDma2_eq 𝒱₀ (c : Thread nD τ) none Set.univ) (Set.mem_univ _) () (O := 0) (W := W) (R := 0) (m := 0) (T := ∅)
      (by rw [Nat.zero_add, hx])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq hP); iexact Hpay

/-- A wait for a send gives its source back. -/
theorem step_wait_send (c : Dev nD) (i : Fin 6) (W : Waits sig Unit)
    {s : Shape} {src dst : Memref sig .tc .vmem s .f32} {hsrc : src.view.WordExact} {hdst : dst.view.WordExact} (hN : dst.view.dmaCredit = crd i)
    {α : Type} {Q : α → sProp 𝕄} {k : PUnit → Prog (TpuEff nD τ sig (Elt F) Λ₀ .tc) α} :
    iprop(records X κ ∗ cred (tallyAt (sendCell i c) () (crd i)) ∗ owes (c : Thread nD τ) 0 W ∗ atPos ER (sendCell i c) 0 ∅ 0)
      ⊢ iprop(((owes (c : Thread nD τ) 0 (insert (SemLoc.dma (sendS i), ()) W) ∗ atPos ER (sendCell i c) (0 + 1) ∅ 0 ∗ sendPay X i c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) src dst hsrc hdst) k) Q) :=
  step_wait X κ c (sendS i) (crd i) _ (Finset.mem_union_right _ (send_mem i c)) (expect_send X i c) (rest_send X i c) W hN

/-- A wait for an arrival gives what arrived. -/
theorem step_wait_recv (c : Dev nD) (i : Fin 6) (W : Waits sig Unit)
    {s : Shape} {src dst : Memref sig .tc .vmem s .f32} {hsrc : src.view.WordExact} {hdst : dst.view.WordExact} (hN : dst.view.dmaCredit = crd i)
    {α : Type} {Q : α → sProp 𝕄} {k : PUnit → Prog (TpuEff nD τ sig (Elt F) Λ₀ .tc) α} :
    iprop(records X κ ∗ cred (tallyAt (recvCell i c) () (crd i)) ∗ owes (c : Thread nD τ) 0 W ∗ atPos ER (recvCell i c) 0 ∅ 0)
      ⊢ iprop(((owes (c : Thread nD τ) 0 (insert (SemLoc.dma (recvS i), ()) W) ∗ atPos ER (recvCell i c) (0 + 1) ∅ 0 ∗ recvPay X i c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) src dst hsrc hdst) k) Q) :=
  step_wait X κ c (recvS i) (crd i) _ (Finset.mem_union_right _ (recv_mem i c)) (expect_recv X i c) (rest_recv X i c) W hN

/-- After its round a cell closes at zero. -/
theorem step_close {g : GSem nD τ sig} (hg : g ∈ barCells ∪ scCells) :
    iprop(records X κ ∗ atPos ER g (0 + 1) ∅ 0) ⊢ |={Set.univ}=> (semVal g 0 : sProp 𝕄) := by
  iintro ⟨#Hrec, Hat⟩
  ihave #HI := (inv_at X κ hg) $$ Hrec
  iapply (Rounds.cell_close ER (Rd X) (Set.mem_univ (κ g)) (fun h => h) (R := 0 + 1) (duties_later X g))
  isplitr; · iexact HI
  iexact Hat

/-! ## What a device starts its body with, and ends it with -/

/-- Something for each peer. -/
abbrev three (Φ : Fin 3 → sProp 𝕄) : sProp 𝕄 := iprop(Φ 0 ∗ Φ 1 ∗ Φ 2)
/-- Something for each flow. -/
abbrev six (Φ : Fin 6 → sProp 𝕄) : sProp 𝕄 := iprop(Φ 0 ∗ Φ 1 ∗ Φ 2 ∗ Φ 3 ∗ Φ 4 ∗ Φ 5)

/-- The peer flow `i` goes to. -/
def dest (i : Fin 6) : Fin 3 :=
  match i with
  | 0 => 0
  | 1 => 1
  | 2 => 2
  | 3 => 0
  | 4 => 1
  | 5 => 2

/-- The six cells close together. -/
theorem close_six (Γ : Fin 6 → GSem nD τ sig) (hΓ : ∀ i, Γ i ∈ barCells ∪ scCells) :
    iprop(records X κ ∗ six fun i => atPos ER (Γ i) (0 + 1) ∅ 0) ⊢ |={Set.univ}=> (six fun i => semVal (Γ i) 0 : sProp 𝕄) := by
  iintro ⟨#Hrec, H0, H1, H2, H3, H4, H5⟩
  imod (step_close X κ (hΓ 0)) $$ [H0] with H0
  · isplitr; · iexact Hrec
    iexact H0
  imod (step_close X κ (hΓ 1)) $$ [H1] with H1
  · isplitr; · iexact Hrec
    iexact H1
  imod (step_close X κ (hΓ 2)) $$ [H2] with H2
  · isplitr; · iexact Hrec
    iexact H2
  imod (step_close X κ (hΓ 3)) $$ [H3] with H3
  · isplitr; · iexact Hrec
    iexact H3
  imod (step_close X κ (hΓ 4)) $$ [H4] with H4
  · isplitr; · iexact Hrec
    iexact H4
  imod (step_close X κ (hΓ 5)) $$ [H5] with H5
  · isplitr; · iexact Hrec
    iexact H5
  imodintro
  isplitl [H0]; · iexact H0
  isplitl [H1]; · iexact H1
  isplitl [H2]; · iexact H2
  isplitl [H3]; · iexact H3
  isplitl [H4]; · iexact H4
  iexact H5

/-- The record, the device's positions, and what it may pay with. -/
def opened (c : Dev nD) : sProp 𝕄 :=
  iprop(records X κ ∗ atPos ER (barCell c) 0 ∅ 0 ∗ (six fun i => atPos ER (sendCell i c) 0 ∅ 0) ∗ (six fun i => atPos ER (recvCell i c) 0 ∅ 0)
    ∗ (six fun i => reached ER (sendCell i c) 0) ∗ (six fun i => reached ER (recvCell i c) 0)
    ∗ (three fun p => dutyTok ER (barCell (peer p c)) 0 p)
    ∗ (six fun i => dutyTok ER (sendCell i c) 0 0) ∗ (six fun i => dutyTok ER (recvCell i (peer (dest i) c)) 0 0))

/-- The credits a device waits with. -/
def credits (c : Dev nD) : sProp 𝕄 :=
  iprop(cred (tallyAt (barCell c) () 3) ∗ six fun i => cred (tallyAt (recvCell i c) () (crd i)))

/-- Every semaphore the body uses, at zero. -/
def zeros (c : Dev nD) : sProp 𝕄 :=
  iprop(semVal (barCell c) 0 ∗ (six fun i => semVal (sendCell i c) 0) ∗ (six fun i => semVal (recvCell i c) 0))

/-- The scratch buffers of a device, at some contents. -/
def scratch (c : Dev nD) : sProp 𝕄 :=
  iprop((∃ f, pt c cc0_scratch0 fullShare f) ∗ (∃ f, pt c cc0_scratch1 fullShare f) ∗ (∃ f, pt c cc0_scratch2 fullShare f)
    ∗ (∃ f, pt c cc0_scratch3 fullShare f) ∗ (∃ f, pt c cc0_scratch4 fullShare f) ∗ (∃ f, pt c cc0_scratch5 fullShare f)
    ∗ (∃ f, pt c cc0_scratch6 fullShare f))

end Rec

end Cert.KernelIdeal.Halo
-- ==== Proof.Ghost.lean ====
/-
  What the launch gives each device: its positions and tokens of the schedule, and the credit its waits take.
-/
module

public import proofs.«01_k».proof.Proof.Steps

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

/-! ## The tokens -/

/-- The duties of one device's own cells: three at its barrier, one at each of its twelve transfer semaphores. -/
def dutyAt (x : Dev nD × (Fin 3 ⊕ Fin 12)) : GSem nD τ sig × ℕ × Fin 3 :=
  match x.2 with
  | .inl d => (barCell x.1, 0, d)
  | .inr k => ((((x.1 : Dev nD) : Thread nD τ), osem k), 0, 0)

/-- A duty at a barrier. -/
theorem dutyAt_inl (c : Dev nD) (d : Fin 3) : dutyAt (c, .inl d) = (barCell c, 0, d) := rfl
/-- A duty at a transfer semaphore. -/
theorem dutyAt_inr (c : Dev nD) (k : Fin 12) : dutyAt (c, .inr k) = (((c : Thread nD τ), osem k), 0, 0) := rfl

/-- A transfer semaphore isn't the barrier. -/
theorem osem_ne_bar (k : Fin 12) : osem k ≠ .reg barS := fun h => by cases h

/-- Different duties have different names. -/
theorem dutyAt_inj : Function.Injective dutyAt := by
  rintro ⟨c, x⟩ ⟨c', x'⟩ h
  rcases x with d | k <;> rcases x' with d' | k'
  · rw [dutyAt_inl, dutyAt_inl] at h
    have h1 : c = c' := congrArg (fun t : GSem nD τ sig × ℕ × Fin 3 => t.1.1.1) h
    have h2 : d = d' := congrArg (fun t : GSem nD τ sig × ℕ × Fin 3 => t.2.2) h
    rw [h1, h2]
  · rw [dutyAt_inl, dutyAt_inr] at h
    exact absurd (congrArg (fun t : GSem nD τ sig × ℕ × Fin 3 => t.1.2) h).symm (osem_ne_bar k')
  · rw [dutyAt_inl, dutyAt_inr] at h
    exact absurd (congrArg (fun t : GSem nD τ sig × ℕ × Fin 3 => t.1.2) h) (osem_ne_bar k)
  · rw [dutyAt_inr, dutyAt_inr] at h
    have h1 : c = c' := congrArg (fun t : GSem nD τ sig × ℕ × Fin 3 => t.1.1.1) h
    have h2 : k = k' := osem_inj (congrArg (fun t : GSem nD τ sig × ℕ × Fin 3 => t.1.2) h)
    rw [h1, h2]

/-- Every duty of the schedule. -/
def allDuties : Finset (GSem nD τ sig × ℕ × Fin 3) := Finset.univ.map ⟨dutyAt, dutyAt_inj⟩

/-- The barriers are no transfer semaphores. -/
theorem cells_disjoint : Disjoint barCells scCells := by
  rw [Finset.disjoint_left]
  intro g h h'
  obtain ⟨c, -, rfl⟩ := Finset.mem_map.mp h
  obtain ⟨p, -, hp⟩ := Finset.mem_map.mp h'
  exact osem_ne_bar p.2 (congrArg (fun g : GSem nD τ sig => g.2) hp)

/-- Twelve conjuncts as two groups of six. -/
theorem bigSep_twelve (Φ : Fin 12 → sProp 𝕄) : bigSep Finset.univ Φ
    = iprop((Φ 0 ∗ Φ 1 ∗ Φ 2 ∗ Φ 3 ∗ Φ 4 ∗ Φ 5) ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]
  show iprop(Φ 0 ∗ Φ 1 ∗ Φ 2 ∗ Φ 3 ∗ Φ 4 ∗ Φ 5 ∗ Φ 6 ∗ Φ 7 ∗ Φ 8 ∗ Φ 9 ∗ Φ 10 ∗ Φ 11) = _
  have h1 : (iprop(Φ 0 ∗ Φ 1 ∗ Φ 2 ∗ Φ 3 ∗ Φ 4 ∗ Φ 5 ∗ Φ 6 ∗ Φ 7 ∗ Φ 8 ∗ Φ 9 ∗ Φ 10 ∗ Φ 11) : sProp 𝕄) ⊢ iprop((Φ 0 ∗ Φ 1 ∗ Φ 2 ∗ Φ 3 ∗ Φ 4 ∗ Φ 5) ∗ Φ 6 ∗ Φ 7 ∗ Φ 8 ∗ Φ 9 ∗ Φ 10 ∗ Φ 11) := by
    iintro ⟨H0, H1, H2, H3, H4, H5, H⟩
    isplitr [H]
    · isplitl [H0]; · iexact H0
      isplitl [H1]; · iexact H1
      isplitl [H2]; · iexact H2
      isplitl [H3]; · iexact H3
      isplitl [H4] <;> iassumption
    iexact H
  have h2 : (iprop((Φ 0 ∗ Φ 1 ∗ Φ 2 ∗ Φ 3 ∗ Φ 4 ∗ Φ 5) ∗ Φ 6 ∗ Φ 7 ∗ Φ 8 ∗ Φ 9 ∗ Φ 10 ∗ Φ 11) : sProp 𝕄) ⊢ iprop(Φ 0 ∗ Φ 1 ∗ Φ 2 ∗ Φ 3 ∗ Φ 4 ∗ Φ 5 ∗ Φ 6 ∗ Φ 7 ∗ Φ 8 ∗ Φ 9 ∗ Φ 10 ∗ Φ 11) := by
    iintro ⟨⟨H0, H1, H2, H3, H4, H5⟩, H⟩
    isplitl [H0]; · iexact H0
    isplitl [H1]; · iexact H1
    isplitl [H2]; · iexact H2
    isplitl [H3]; · iexact H3
    isplitl [H4]; · iexact H4
    isplitl [H5]; · iexact H5
    iexact H
  exact BI.equiv_iff.mp ⟨h1, h2⟩

/-- A family over a device's transfer semaphores, by flow. -/
theorem bigSep_osem (Φ : GSem nD τ sig → sProp 𝕄) (c : Dev nD) : (bigSep Finset.univ fun k : Fin 12 => Φ ((c : Thread nD τ), osem k))
    = iprop((six fun i => Φ (sendCell i c)) ∗ six fun i => Φ (recvCell i c)) := by
  rw [bigSep_twelve]; rfl

/-- A family over all transfer semaphores, by device and flow. -/
theorem bigSep_scCells (Φ : GSem nD τ sig → sProp 𝕄) : bigSep scCells Φ
    = bigSep Finset.univ fun c : Dev nD => iprop((six fun i => Φ (sendCell i c)) ∗ six fun i => Φ (recvCell i c)) := by
  unfold scCells
  rw [bigSep_map, bigSep_univ_prod]
  exact bigSep_congr fun c _ => bigSep_osem Φ c

/-- A family over all barriers, by device. -/
theorem bigSep_barCells (Φ : GSem nD τ sig → sProp 𝕄) : bigSep barCells Φ = bigSep Finset.univ fun c : Dev nD => Φ (barCell c) := by
  unfold barCells; rw [bigSep_map]; rfl

/-- The tokens of a device's own duties. -/
def ownToks (c : Dev nD) : sProp 𝕄 :=
  iprop((three fun p => dutyTok ER (barCell c) 0 p) ∗ (six fun i => dutyTok ER (sendCell i c) 0 0) ∗ six fun i => dutyTok ER (recvCell i c) 0 0)

/-- The tokens of the duties a device pays. -/
def payToks (c : Dev nD) : sProp 𝕄 :=
  iprop((three fun p => dutyTok ER (barCell (peer p c)) 0 p) ∗ (six fun i => dutyTok ER (sendCell i c) 0 0)
    ∗ six fun i => dutyTok ER (recvCell i (peer (dest i) c)) 0 0)

/-- All the tokens are every device's own. -/
theorem allDuties_eq : bigSep allDuties (fun x => (dutyTok ER x.1 x.2.1 x.2.2 : sProp 𝕄)) = bigSep Finset.univ fun c : Dev nD => ownToks c := by
  unfold allDuties
  rw [bigSep_map, bigSep_univ_prod]
  refine bigSep_congr fun c _ => ?_
  rw [BI.bigSep_univ_sum]
  unfold ownToks
  have e1 : (bigSep Finset.univ fun d : Fin 3 => (dutyTok ER (barCell c) 0 d : sProp 𝕄)) = (three fun p => dutyTok ER (barCell c) 0 p) :=
    bigSep_univ_eq_bigSepL [0, 1, 2] (by decide) (by decide) _
  rw [← e1, ← bigSep_osem (fun g => (dutyTok ER g 0 0 : sProp 𝕄)) c]
  rfl

/-- The duties a peer pays: each token moves to the device that pays it. -/
theorem toks_move (p : Fin 3) (Φ : Dev nD → sProp 𝕄) : bigSep Finset.univ Φ = bigSep Finset.univ fun c => Φ (peer p c) :=
  bigSep_univ_equiv (peerE p) Φ

/-- The tokens of everybody's own duties can be dealt to those who pay them. -/
theorem toks_dealt : (bigSep Finset.univ fun c : Dev nD => (ownToks c : sProp 𝕄)) ⊢ bigSep Finset.univ fun c : Dev nD => payToks c := by
  unfold ownToks payToks three six
  simp only [bigSep_sep']
  rw [toks_move 0 fun c : Dev nD => (dutyTok ER (barCell c) 0 0 : sProp 𝕄), toks_move 1 fun c : Dev nD => (dutyTok ER (barCell c) 0 1 : sProp 𝕄),
    toks_move 2 fun c : Dev nD => (dutyTok ER (barCell c) 0 2 : sProp 𝕄),
    toks_move (dest 0) fun c : Dev nD => (dutyTok ER (recvCell 0 c) 0 0 : sProp 𝕄), toks_move (dest 1) fun c : Dev nD => (dutyTok ER (recvCell 1 c) 0 0 : sProp 𝕄),
    toks_move (dest 2) fun c : Dev nD => (dutyTok ER (recvCell 2 c) 0 0 : sProp 𝕄), toks_move (dest 3) fun c : Dev nD => (dutyTok ER (recvCell 3 c) 0 0 : sProp 𝕄),
    toks_move (dest 4) fun c : Dev nD => (dutyTok ER (recvCell 4 c) 0 0 : sProp 𝕄), toks_move (dest 5) fun c : Dev nD => (dutyTok ER (recvCell 5 c) 0 0 : sProp 𝕄)]

/-! ## The credit -/

/-- A barrier isn't a receive semaphore. -/
theorem bar_ne_recv (i : Fin 6) (a b : Dev nD) : barCell a ≠ recvCell i b := fun h => by
  have h' : (SemLoc.reg barS : SemLoc sig) = .dma (recvS i) := congrArg (fun g : GSem nD τ sig => g.2) h
  cases h'

/-- Each device has its barrier. -/
theorem barCell_inj {a b : Dev nD} (h : barCell a = barCell b) : a = b := congrArg (fun g : GSem nD τ sig => g.1.1) h
/-- Each device and flow has its receive semaphore. -/
theorem recvCell_inj {i j : Fin 6} {a b : Dev nD} (h : recvCell i a = recvCell j b) : i = j ∧ a = b := by
  refine ⟨?_, congrArg (fun g : GSem nD τ sig => g.1.1) h⟩
  have h' : (SemLoc.dma (recvS i) : SemLoc sig) = .dma (recvS j) := congrArg (fun g : GSem nD τ sig => g.2) h
  have h2 := congrArg Fin.val (SemLoc.dma.inj h')
  have h3 : 10 + i.val = 10 + j.val := h2
  exact Fin.ext (by omega)

/-- What a signal owes a barrier. -/
theorem owe_bb (p : Fin 3) (n : ℕ) (d c : Dev nD) : (tallyAt (barCell (peer p d)) () n : CellTallies nD τ sig Unit) (barCell c) () = if d = peer p c then n else 0 := by
  rw [tallyAt_apply]
  by_cases h : d = peer p c
  · subst h; rw [peer_peer, if_pos ⟨rfl, rfl⟩, if_pos rfl]
  · rw [if_neg (fun h' => h (by rw [barCell_inj h'.1, peer_peer])), if_neg h]
/-- A copy owes a barrier nothing. -/
theorem owe_rb (i : Fin 6) (p : Fin 3) (n : ℕ) (d c : Dev nD) : (tallyAt (recvCell i (peer p d)) () n : CellTallies nD τ sig Unit) (barCell c) () = 0 := by
  rw [tallyAt_apply, if_neg (fun h => bar_ne_recv i c _ h.1)]
/-- A signal owes a receive semaphore nothing. -/
theorem owe_br (j : Fin 6) (p : Fin 3) (n : ℕ) (d c : Dev nD) : (tallyAt (barCell (peer p d)) () n : CellTallies nD τ sig Unit) (recvCell j c) () = 0 := by
  rw [tallyAt_apply, if_neg (fun h => bar_ne_recv j _ c h.1.symm)]
/-- What a copy owes a receive semaphore. -/
theorem owe_rr (i j : Fin 6) (p : Fin 3) (n : ℕ) (d c : Dev nD) : (tallyAt (recvCell i (peer p d)) () n : CellTallies nD τ sig Unit) (recvCell j c) ()
    = if d = peer p c then (if i = j then n else 0) else 0 := by
  rw [tallyAt_apply]
  by_cases h : d = peer p c
  · subst h; rw [peer_peer, if_pos rfl]
    by_cases hi : i = j
    · subst hi; rw [if_pos ⟨rfl, rfl⟩, if_pos rfl]
    · rw [if_neg (fun h' => hi (recvCell_inj h'.1).1.symm), if_neg hi]
  · rw [if_neg (fun h' => h (by rw [(recvCell_inj h'.1).2, peer_peer])), if_neg h]

/-- What a device owes at launch, debt by debt. -/
theorem owe_expand (d : Dev nD) (g : GSem nD τ sig) : O₀ d g ()
    = ((((((((0 + (tallyAt (recvCell 5 (peer 2 d)) () (crd 5) : CellTallies nD τ sig Unit) g ()) + (tallyAt (recvCell 4 (peer 1 d)) () (crd 4) : CellTallies nD τ sig Unit) g ())
      + (tallyAt (recvCell 3 (peer 0 d)) () (crd 3) : CellTallies nD τ sig Unit) g ()) + (tallyAt (recvCell 2 (peer 2 d)) () (crd 2) : CellTallies nD τ sig Unit) g ())
      + (tallyAt (recvCell 1 (peer 1 d)) () (crd 1) : CellTallies nD τ sig Unit) g ()) + (tallyAt (recvCell 0 (peer 0 d)) () (crd 0) : CellTallies nD τ sig Unit) g ())
      + (tallyAt (barCell (peer 2 d)) () 1 : CellTallies nD τ sig Unit) g ()) + (tallyAt (barCell (peer 1 d)) () 1 : CellTallies nD τ sig Unit) g ())
      + (tallyAt (barCell (peer 0 d)) () 1 : CellTallies nD τ sig Unit) g () := by
  unfold O₀ Ow8 Ow7 Ow6 Ow5 Ow4 Ow3 Ow2 Ow1 Ow0
  simp only [Pi.add_apply, Finsupp.add_apply]
  rfl

/-- Just one device has a given device as its peer of a kind. -/
theorem sum_at (p : Fin 3) (n : ℕ) (c : Dev nD) : (∑ d : Dev nD, if d = peer p c then n else 0) = n := by
  rw [Finset.sum_ite_eq' Finset.univ (peer p c) fun _ => n, if_pos (Finset.mem_univ _)]

/-- Three units reach a barrier in all. -/
theorem total_bar (c : Dev nD) : (∑ d : Dev nD, O₀ d (barCell c) ()) = 3 := by
  simp only [owe_expand, owe_bb, owe_rb, Nat.zero_add, Finset.sum_add_distrib, sum_at]

/-- The bytes of its one block reach a receive semaphore in all. -/
theorem total_recv (j : Fin 6) (c : Dev nD) : (∑ d : Dev nD, O₀ d (recvCell j c) ()) = crd j := by
  simp only [owe_expand, owe_rr, owe_br, Nat.zero_add, Nat.add_zero, Finset.sum_add_distrib, sum_at]
  fin_cases j <;> simp

/-- The credit made for a barrier at launch. -/
theorem grant_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, total_bar]
/-- The credit made for a receive semaphore at launch. -/
theorem grant_recv (j : Fin 6) (c : Dev nD) :
    tallyOn (recvCell j c) (launchCredit (Pipeline.owing O₀) 0 (recvCell j c)) = (tallyAt (recvCell j c) () (crd j) : CellTallies nD τ sig Unit) := by
  unfold tallyAt; refine congrArg _ (Finsupp.ext fun u => ?_); cases u
  rw [Pipeline.launchCredit_owing, Finsupp.single_eq_same, total_recv]

/-- The launch's credit is enough for every wait. -/
theorem credits_of (c : Dev nD) : (Pipeline.launchCred O₀ c : sProp 𝕄) ⊢ credits c := by
  unfold Pipeline.launchCred credits six
  beta_reduce
  rw [← grant_bar c, ← grant_recv 0 c, ← grant_recv 1 c, ← grant_recv 2 c, ← grant_recv 3 c, ← grant_recv 4 c, ← grant_recv 5 c]
  have hn : ([.reg barS, .dma (recvS 0), .dma (recvS 1), .dma (recvS 2), .dma (recvS 3), .dma (recvS 4), .dma (recvS 5)] : List (SemLoc sig)).Nodup := by decide
  exact (BI.bigSep_subset (Finset.subset_univ _)).trans (Entails.of_eq (bigSep_eq_bigSepL _ hn _))

/-! ## What a device holds before the region, and once its semaphores are opened -/

section Open

variable (X : Dev nD → (cc0_stg0_0 : Ref sig .tc).ty.Contents (Elt F))

/-- Its barrier position, its right to open its transfer semaphores, the tokens it pays with. -/
def linear (c : Dev nD) : sProp 𝕄 :=
  iprop(atPos ER (barCell c) 0 ∅ 0 ∗ ((six fun i => openTok ER (sendCell i c)) ∗ six fun i => openTok ER (recvCell i c)) ∗ payToks c)

/-- What a device holds of the schedule before the region. -/
def before (c : Dev nD) : sProp 𝕄 := iprop((∃ κ, records X κ ∗ linear c) ∗ credits c)
/-- And once the region has its semaphores. -/
def entered (c : Dev nD) : sProp 𝕄 := iprop((∃ κ, opened X κ c) ∗ credits c ∗ levAts L lv)

/-- A semaphore at zero enters the schedule at its first round. -/
theorem open_one (κ : GSem nD τ sig → ℕ) (g : GSem nD τ sig) (hg : g ∈ barCells ∪ scCells) :
    iprop(records X κ ∗ openTok ER g ∗ semVal g 0) ⊢ (|={Set.univ}=> iprop(atPos ER g 0 ∅ 0 ∗ reached ER g 0) : sProp 𝕄) := by
  iintro ⟨#Hrec, Ho, Hv⟩
  ihave #HI := (inv_at X κ hg) $$ Hrec
  imod (Rounds.cell_open ER (Rd X) (g := g) (Set.mem_univ (κ g))) $$ [Ho Hv] with ⟨Hat, #Hr⟩
  · isplitr; · iexact HI
    isplitl [Ho] <;> iassumption
  imodintro
  isplitl [Hat]; · iexact Hat
  iexact Hr

/-- Six of them together. -/
theorem open_six (κ : GSem nD τ sig → ℕ) (Γ : Fin 6 → GSem nD τ sig) (hΓ : ∀ i, Γ i ∈ barCells ∪ scCells) :
    iprop(records X κ ∗ (six fun i => openTok ER (Γ i)) ∗ six fun i => semVal (Γ i) 0)
      ⊢ (|={Set.univ}=> iprop((six fun i => atPos ER (Γ i) 0 ∅ 0) ∗ six fun i => reached ER (Γ i) 0) : sProp 𝕄) := by
  iintro ⟨#Hrec, ⟨H0, H1, H2, H3, H4, H5⟩, G0, G1, G2, G3, G4, G5⟩
  imod (open_one X κ (Γ 0) (hΓ 0)) $$ [H0 G0] with ⟨H0, #R0⟩
  · isplitr; · iexact Hrec
    isplitl [H0] <;> iassumption
  imod (open_one X κ (Γ 1) (hΓ 1)) $$ [H1 G1] with ⟨H1, #R1⟩
  · isplitr; · iexact Hrec
    isplitl [H1] <;> iassumption
  imod (open_one X κ (Γ 2) (hΓ 2)) $$ [H2 G2] with ⟨H2, #R2⟩
  · isplitr; · iexact Hrec
    isplitl [H2] <;> iassumption
  imod (open_one X κ (Γ 3) (hΓ 3)) $$ [H3 G3] with ⟨H3, #R3⟩
  · isplitr; · iexact Hrec
    isplitl [H3] <;> iassumption
  imod (open_one X κ (Γ 4) (hΓ 4)) $$ [H4 G4] with ⟨H4, #R4⟩
  · isplitr; · iexact Hrec
    isplitl [H4] <;> iassumption
  imod (open_one X κ (Γ 5) (hΓ 5)) $$ [H5 G5] with ⟨H5, #R5⟩
  · isplitr; · iexact Hrec
    isplitl [H5] <;> iassumption
  imodintro
  isplitr []
  · isplitl [H0]; · iexact H0
    isplitl [H1]; · iexact H1
    isplitl [H2]; · iexact H2
    isplitl [H3]; · iexact H3
    isplitl [H4]; · iexact H4
    iexact H5
  isplitr; · iexact R0
  isplitr; · iexact R1
  isplitr; · iexact R2
  isplitr; · iexact R3
  isplitr; · iexact R4
  iexact R5

/-- The region's semaphores at zero, by flow. -/
theorem ownSems_eq (c : Dev nD) : (Pipeline.ownSems0 osem c : sProp 𝕄)
    = iprop((six fun i => semVal (sendCell i c) 0) ∗ six fun i => semVal (recvCell i c) 0) :=
  bigSep_osem (fun g => (semVal g 0 : sProp 𝕄)) c

/-- At the region's entry a device opens its twelve transfer semaphores. -/
theorem enter (c : Dev nD) : iprop(before X c ∗ Pipeline.ownSems0 osem c ∗ levAts L lv) ⊢ (|={Set.univ}=> entered X c : sProp 𝕄) := by
  rw [ownSems_eq]
  unfold before entered linear payToks
  iintro ⟨⟨⟨%κ, #Hrec, Hat, ⟨HoS, HoR⟩, HtB, HtS, HtR⟩, Hcr⟩, ⟨HvS, HvR⟩, #Hlev⟩
  imod (open_six X κ (fun i => sendCell i c) (fun i => Finset.mem_union_right _ (send_mem i c))) $$ [HoS HvS] with ⟨HaS, HrS⟩
  · isplitr; · iexact Hrec
    isplitl [HoS]; · iexact HoS
    iexact HvS
  imod (open_six X κ (fun i => recvCell i c) (fun i => Finset.mem_union_right _ (recv_mem i c))) $$ [HoR HvR] with ⟨HaR, HrR⟩
  · isplitr; · iexact Hrec
    isplitl [HoR]; · iexact HoR
    iexact HvR
  imodintro
  isplitr [Hcr]
  · iexists κ
    unfold opened
    isplitr; · iexact Hrec
    isplitl [Hat]; · iexact Hat
    isplitl [HaS]; · iexact HaS
    isplitl [HaR]; · iexact HaR
    isplitl [HrS]; · iexact HrS
    isplitl [HrR]; · iexact HrR
    isplitl [HtB]; · iexact HtB
    isplitl [HtS]; · iexact HtS
    iexact HtR
  isplitl [Hcr]; · iexact Hcr
  iexact Hlev

end Open

end Cert.KernelIdeal.Halo
-- ==== Proof.Body.lean ====
/-
  One device's run of the kernel, effect by effect, with the contents of every buffer.
-/
module

public import proofs.«01_k».proof.Proof.Steps

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

/-! ## The statistics buffer by rows, and a row by quarter shares -/

/-- The statistics buffer is its four rows. -/
theorem stats_rows (c : Dev nD) (f : Buf (Elt F) ((c : Thread nD τ).loc cc0_scratch6)) :
    (pt c cc0_scratch6 fullShare f : sProp 𝕄)
      ⊣⊢ iprop(st c (rowSet 0) fullShare f ∗ st c (rowSet 1) fullShare f ∗ st c (rowSet 2) fullShare f ∗ st c (rowSet 3) fullShare f) := by
  have d3 : Disjoint (rowSet 2) (rowSet 3) := row_disj (by decide)
  have d2 : Disjoint (rowSet 1) (rowSet 2 ∪ rowSet 3) := Finset.disjoint_union_right.mpr ⟨row_disj (by decide), row_disj (by decide)⟩
  have d1 : Disjoint (rowSet 0) (rowSet 1 ∪ (rowSet 2 ∪ rowSet 3)) :=
    Finset.disjoint_union_right.mpr ⟨row_disj (by decide), Finset.disjoint_union_right.mpr ⟨row_disj (by decide), row_disj (by decide)⟩⟩
  have e : (pt c cc0_scratch6 fullShare f : sProp 𝕄) = st c (rowSet 0 ∪ (rowSet 1 ∪ (rowSet 2 ∪ rowSet 3))) fullShare f := by
    rw [row_cover]
  rw [e]
  constructor
  · iintro H
    ihave H := (pointsTo_union d1).1 $$ H
    icases H with ⟨H0, H⟩
    ihave H := (pointsTo_union d2).1 $$ H
    icases H with ⟨H1, H⟩
    ihave H := (pointsTo_union d3).1 $$ H
    icases H with ⟨H2, H3⟩
    isplitl [H0]; · iexact H0
    isplitl [H1]; · iexact H1
    isplitl [H2]; · iexact H2
    iexact H3
  · iintro ⟨H0, H1, H2, H3⟩
    iapply (pointsTo_union d1).2
    isplitl [H0]; · iexact H0
    iapply (pointsTo_union d2).2
    isplitl [H1]; · iexact H1
    iapply (pointsTo_union d3).2
    isplitl [H2]; · iexact H2
    iexact H3

/-- A whole share of some elements is its four quarters. -/
theorem row_quarters (c : Dev nD) (S : Finset S4x2x2x64.Idx) (f : Buf (Elt F) ((c : Thread nD τ).loc cc0_scratch6)) :
    (st c S fullShare f : sProp 𝕄) ⊣⊢ iprop(st c S qA f ∗ st c S qB f ∗ st c S qC f ∗ st c S qD f) := by
  constructor
  · iintro H
    ihave H := (pointsTo_share (PosShare.mem_left_op_right fullShare)).1 $$ H
    icases H with ⟨HL, HR⟩
    ihave HL := (pointsTo_share (PosShare.mem_left_op_right fullShare.left)).1 $$ HL
    ihave HR := (pointsTo_share (PosShare.mem_left_op_right fullShare.right)).1 $$ HR
    icases HL with ⟨HA, HB⟩
    icases HR with ⟨HC, HD⟩
    isplitl [HA]; · iexact HA
    isplitl [HB]; · iexact HB
    isplitl [HC]; · iexact HC
    iexact HD
  · iintro ⟨HA, HB, HC, HD⟩
    iapply (pointsTo_share (PosShare.mem_left_op_right fullShare)).2
    isplitl [HA HB]
    · iapply (pointsTo_share (PosShare.mem_left_op_right fullShare.left)).2
      isplitl [HA]; · iexact HA
      iexact HB
    · iapply (pointsTo_share (PosShare.mem_left_op_right fullShare.right)).2
      isplitl [HC]; · iexact HC
      iexact HD

/-- What a load of row `J` touches lies in that row. -/
theorem sub_row (j : ℕ) (J : Fin 4) (hJ : J.val = j) (inb) :
    (stM.access (Rect.unit (s := S4x2x2x64) ![j, 0, 0, 0] S1x2x2x64.size inb)).set ⊆ rowSet J :=
  le_of_eq ((View.set_slice_whole cc0_scratch6 _).trans (row_unit j J hJ _))

/-- A send of the device's moments, its landing row described. -/
theorem land_pay (X : Dev nD → (cc0_stg0_0 : Ref sig .tc).ty.Contents (Elt F)) (j : ℕ) (J : Fin 4) (hJ : J.val = j) (inb) (c d : Dev nD)
    (h : who J d = c) (fd : S4x2x2x64.Idx → Elt F .f32) :
    (((stM.slice (Rect.unit (s := S4x2x2x64) ![j, 0, 0, 0] S1x2x2x64.size inb) (fun _ => rfl)).squeeze S2x2x64 squeezes_S1x2x2x64_S2x2x64).view.loc (d : Thread nD τ)
      ↦[((stM.slice (Rect.unit (s := S4x2x2x64) ![j, 0, 0, 0] S1x2x2x64.size inb) (fun _ => rfl)).squeeze S2x2x64 squeezes_S1x2x2x64_S2x2x64).view.set]{fullShare}
      (((stM.slice (Rect.unit (s := S4x2x2x64) ![j, 0, 0, 0] S1x2x2x64.size inb) (fun _ => rfl)).squeeze S2x2x64 squeezes_S1x2x2x64_S2x2x64).view.write (Elt F) fd
        (sl0.view.read (Elt F) (statsV X c)) Finset.univ) : sProp 𝕄) ⊢ st d (rowSet J) fullShare (statsV X d) := by
  have hs : ((stM.slice (Rect.unit (s := S4x2x2x64) ![j, 0, 0, 0] S1x2x2x64.size inb) (fun _ => rfl)).squeeze S2x2x64 squeezes_S1x2x2x64_S2x2x64).view.set
      = rowSet J := (View.set_reshape _ _).trans ((View.set_slice_whole cc0_scratch6 _).trans (row_unit j J hJ _))
  rw [hs]
  exact Entails.of_eq (pointsTo_congr (land_row X j J hJ inb c d h fd))

/-- The elements a load of row `J` reads lie in that row. -/
theorem sub_row_on (j : ℕ) (J : Fin 4) (hJ : J.val = j) (inb) :
    stM.view.setOn (Rect.unit (s := S4x2x2x64) ![j, 0, 0, 0] S1x2x2x64.size inb).toLoadRect.set ⊆ rowSet J := by
  have h := sub_row j J hJ inb
  rwa [View.set_slice] at h

/-- Where the sums are stored lies in row 0. -/
theorem sub_s0_on : stM.view.setOn rS0.toLoadRect.set ⊆ rowSet 0 := by
  have h : (stM.access rS0).set ⊆ rowSet 0 := sub_s0
  rwa [View.set_slice] at h
/-- Where the sums of squares are stored lies in row 0. -/
theorem sub_s1_on : stM.view.setOn rS1.toLoadRect.set ⊆ rowSet 0 := by
  have h : (stM.access rS1).set ⊆ rowSet 0 := sub_s1
  rwa [View.set_slice] at h

/-- Three zero offsets. -/
theorem hz3 : (![0, 0, 0] : Fin 3 → ℕ) = fun _ => 0 := funext fun a => by fin_cases a <;> rfl
/-- Two zero offsets. -/
theorem hz2 : (![0, 0] : Fin 2 → ℕ) = fun _ => 0 := funext fun a => by fin_cases a <;> rfl

/-- A load of the whole input block reads it. -/
theorem ld_xw (f : S2x128x8192.Idx → Elt F .f32) : (Memref.whole cc0_stg0_0 : Memref sig .tc .vmem S2x128x8192 .f32).view.readAt (Elt F)
    (Rect.unit (s := S2x128x8192) ![0, 0, 0] S2x128x8192.size inb_S2x128x8192_S2x128x8192_0_0_0).toLoadRect f = f :=
  Memref.readAt_unit_zero (Elt F) cc0_stg0_0 hz3 _ f
/-- A load of all the taps reads them. -/
theorem ld_kw (f : S3x3x64.Idx → Elt F .f32) : (Memref.whole cc0_stg1_0 : Memref sig .tc .vmem S3x3x64 .f32).view.readAt (Elt F)
    (Rect.unit (s := S3x3x64) ![0, 0, 0] S3x3x64.size inb_S3x3x64_S3x3x64_0_0_0).toLoadRect f = f :=
  Memref.readAt_unit_zero (Elt F) cc0_stg1_0 hz3 _ f
/-- A load of all the weights reads them. -/
theorem ld_ww (f : S64x64.Idx → Elt F .f32) : (Memref.whole cc0_stg2_0 : Memref sig .tc .vmem S64x64 .f32).view.readAt (Elt F)
    (Rect.unit (s := S64x64) ![0, 0] S64x64.size inb_S64x64_S64x64_0_0).toLoadRect f = f :=
  Memref.readAt_unit_zero (Elt F) cc0_stg2_0 hz2 _ f
/-- A store over the whole row buffer leaves what was stored. -/
theorem st_0 (f w : S2x1x8192.Idx → Elt F .f32) : ((Memref.whole cc0_scratch0 : Memref sig .tc .vmem S2x1x8192 .f32).access
    (Rect.unit (s := S2x1x8192) ![0, 0, 0] S2x1x8192.size inb_S2x1x8192_S2x1x8192_0_0_0)).write (Elt F) f w Finset.univ = w :=
  Memref.write_access_unit_zero_univ (Elt F) cc0_scratch0 hz3 _ f w
/-- A store over the whole column buffer leaves what was stored. -/
theorem st_2 (f w : S2x128x64.Idx → Elt F .f32) : ((Memref.whole cc0_scratch2 : Memref sig .tc .vmem S2x128x64 .f32).access
    (Rect.unit (s := S2x128x64) ![0, 0, 0] S2x128x64.size inb_S2x128x64_S2x128x64_0_0_0)).write (Elt F) f w Finset.univ = w :=
  Memref.write_access_unit_zero_univ (Elt F) cc0_scratch2 hz3 _ f w
/-- A store over the whole corner buffer leaves what was stored. -/
theorem st_4 (f w : S2x1x64.Idx → Elt F .f32) : ((Memref.whole cc0_scratch4 : Memref sig .tc .vmem S2x1x64 .f32).access
    (Rect.unit (s := S2x1x64) ![0, 0, 0] S2x1x64.size inb_S2x1x64_S2x1x64_0_0_0)).write (Elt F) f w Finset.univ = w :=
  Memref.write_access_unit_zero_univ (Elt F) cc0_scratch4 hz3 _ f w

/-- The row buffer, once sent, is what the send semaphore gives back. -/
theorem pay_send0 (X : Dev nD → (cc0_stg0_0 : Ref sig .tc).ty.Contents (Elt F)) (c : Dev nD) :
    ((Memref.whole cc0_scratch0 : Memref sig .tc .vmem S2x1x8192 .f32).view.loc (c : Thread nD τ)
      ↦[(Memref.whole cc0_scratch0 : Memref sig .tc .vmem S2x1x8192 .f32).view.set]{fullShare} (rowV X c) : sProp 𝕄) ⊢ sendPay X 0 c := by
  have h : (Memref.whole cc0_scratch0 : Memref sig .tc .vmem S2x1x8192 .f32).view.set = Finset.univ := View.set_whole _
  rw [h]; exact BI.Entails.refl _
/-- The row landed at the peer is what the peer's receive semaphore hands over. -/
theorem pay_recv0 (X : Dev nD → (cc0_stg0_0 : Ref sig .tc).ty.Contents (Elt F)) (c : Dev nD) (f : S2x1x8192.Idx → Elt F .f32) :
    ((Memref.whole cc0_scratch1 : Memref sig .tc .vmem S2x1x8192 .f32).view.loc (peer 0 c : Thread nD τ)
      ↦[(Memref.whole cc0_scratch1 : Memref sig .tc .vmem S2x1x8192 .f32).view.set]{fullShare}
        ((Memref.whole cc0_scratch1 : Memref sig .tc .vmem S2x1x8192 .f32).view.write (Elt F) f
          ((Memref.whole cc0_scratch0 : Memref sig .tc .vmem S2x1x8192 .f32).view.read (Elt F) (rowV X c)) Finset.univ) : sProp 𝕄) ⊢ recvPay X 0 (peer 0 c) := by
  have h : (Memref.whole cc0_scratch1 : Memref sig .tc .vmem S2x1x8192 .f32).view.set = Finset.univ := View.set_whole _
  have hw : (Memref.whole cc0_scratch1 : Memref sig .tc .vmem S2x1x8192 .f32).view.write (Elt F) f
      ((Memref.whole cc0_scratch0 : Memref sig .tc .vmem S2x1x8192 .f32).view.read (Elt F) (rowV X c)) Finset.univ = rowV X c :=
    View.write_whole_univ cc0_scratch1 f _
  rw [h, hw]
  show _ ⊢ pt (peer 0 c) cc0_scratch1 fullShare (rowV X (peer 0 (peer 0 c)))
  rw [peer_peer]

/-- The column buffer, once sent, is what the send semaphore gives back. -/
theorem pay_send1 (X : Dev nD → (cc0_stg0_0 : Ref sig .tc).ty.Contents (Elt F)) (c : Dev nD) :
    ((Memref.whole cc0_scratch2 : Memref sig .tc .vmem S2x128x64 .f32).view.loc (c : Thread nD τ)
      ↦[(Memref.whole cc0_scratch2 : Memref sig .tc .vmem S2x128x64 .f32).view.set]{fullShare} (colV X c) : sProp 𝕄) ⊢ sendPay X 1 c := by
  have h : (Memref.whole cc0_scratch2 : Memref sig .tc .vmem S2x128x64 .f32).view.set = Finset.univ := View.set_whole _
  rw [h]; exact BI.Entails.refl _
/-- The column landed at the peer is what the peer's receive semaphore hands over. -/
theorem pay_recv1 (X : Dev nD → (cc0_stg0_0 : Ref sig .tc).ty.Contents (Elt F)) (c : Dev nD) (f : S2x128x64.Idx → Elt F .f32) :
    ((Memref.whole cc0_scratch3 : Memref sig .tc .vmem S2x128x64 .f32).view.loc (peer 1 c : Thread nD τ)
      ↦[(Memref.whole cc0_scratch3 : Memref sig .tc .vmem S2x128x64 .f32).view.set]{fullShare}
        ((Memref.whole cc0_scratch3 : Memref sig .tc .vmem S2x128x64 .f32).view.write (Elt F) f
          ((Memref.whole cc0_scratch2 : Memref sig .tc .vmem S2x128x64 .f32).view.read (Elt F) (colV X c)) Finset.univ) : sProp 𝕄) ⊢ recvPay X 1 (peer 1 c) := by
  have h : (Memref.whole cc0_scratch3 : Memref sig .tc .vmem S2x128x64 .f32).view.set = Finset.univ := View.set_whole _
  have hw : (Memref.whole cc0_scratch3 : Memref sig .tc .vmem S2x128x64 .f32).view.write (Elt F) f
      ((Memref.whole cc0_scratch2 : Memref sig .tc .vmem S2x128x64 .f32).view.read (Elt F) (colV X c)) Finset.univ = colV X c :=
    View.write_whole_univ cc0_scratch3 f _
  rw [h, hw]
  show _ ⊢ pt (peer 1 c) cc0_scratch3 fullShare (colV X (peer 1 (peer 1 c)))
  rw [peer_peer]

/-- The corner buffer, once sent, is what the send semaphore gives back. -/
theorem pay_send2 (X : Dev nD → (cc0_stg0_0 : Ref sig .tc).ty.Contents (Elt F)) (c : Dev nD) :
    ((Memref.whole cc0_scratch4 : Memref sig .tc .vmem S2x1x64 .f32).view.loc (c : Thread nD τ)
      ↦[(Memref.whole cc0_scratch4 : Memref sig .tc .vmem S2x1x64 .f32).view.set]{fullShare} (corV X c) : sProp 𝕄) ⊢ sendPay X 2 c := by
  have h : (Memref.whole cc0_scratch4 : Memref sig .tc .vmem S2x1x64 .f32).view.set = Finset.univ := View.set_whole _
  rw [h]; exact BI.Entails.refl _
/-- The corner landed at the peer is what the peer's receive semaphore hands over. -/
theorem pay_recv2 (X : Dev nD → (cc0_stg0_0 : Ref sig .tc).ty.Contents (Elt F)) (c : Dev nD) (f : S2x1x64.Idx → Elt F .f32) :
    ((Memref.whole cc0_scratch5 : Memref sig .tc .vmem S2x1x64 .f32).view.loc (peer 2 c : Thread nD τ)
      ↦[(Memref.whole cc0_scratch5 : Memref sig .tc .vmem S2x1x64 .f32).view.set]{fullShare}
        ((Memref.whole cc0_scratch5 : Memref sig .tc .vmem S2x1x64 .f32).view.write (Elt F) f
          ((Memref.whole cc0_scratch4 : Memref sig .tc .vmem S2x1x64 .f32).view.read (Elt F) (corV X c)) Finset.univ) : sProp 𝕄) ⊢ recvPay X 2 (peer 2 c) := by
  have h : (Memref.whole cc0_scratch5 : Memref sig .tc .vmem S2x1x64 .f32).view.set = Finset.univ := View.set_whole _
  have hw : (Memref.whole cc0_scratch5 : Memref sig .tc .vmem S2x1x64 .f32).view.write (Elt F) f
      ((Memref.whole cc0_scratch4 : Memref sig .tc .vmem S2x1x64 .f32).view.read (Elt F) (corV X c)) Finset.univ = corV X c :=
    View.write_whole_univ cc0_scratch5 f _
  rw [h, hw]
  show _ ⊢ pt (peer 2 c) cc0_scratch5 fullShare (corV X (peer 2 (peer 2 c)))
  rw [peer_peer]

/-- A whole buffer's memref is all of it. -/
theorem wset (b : Ref sig .tc) : (Memref.whole b).view.set = Finset.univ := View.set_whole b

section Run

variable (X : Dev nD → (cc0_stg0_0 : Ref sig .tc).ty.Contents (Elt F)) (Kc : S3x3x64.Idx → Elt F .f32) (Wc : S64x64.Idx → Elt F .f32)
  (κ : GSem nD τ sig → ℕ)

/-- What the body takes. -/
def bodyPre (c : Dev nD) (W : Waits sig Unit) : sProp 𝕄 :=
  iprop(opened X κ c ∗ credits c ∗ levAts L lv ∗ scratch c ∗ pt c cc0_stg0_0 fullShare (X c) ∗ pt c cc0_stg1_0 fullShare Kc
    ∗ pt c cc0_stg2_0 fullShare Wc ∗ (∃ f, pt c cc0_stg3_0 fullShare f) ∗ owes (c : Thread nD τ) (O₀ c) W)

/-- What the body leaves. -/
def bodyPost (c : Dev nD) : sProp 𝕄 :=
  iprop(zeros c ∗ scratch c ∗ pt c cc0_stg0_0 fullShare (X c) ∗ pt c cc0_stg1_0 fullShare Kc
    ∗ pt c cc0_stg2_0 fullShare Wc ∗ pt c cc0_stg3_0 fullShare (outV X Kc Wc c) ∗ ∃ W, owes (c : Thread nD τ) 0 W)

set_option maxHeartbeats 6400000 in
/-- The run of one device. -/
theorem sound_body (c : Dev nD) (W : Waits sig Unit) (Kt : PUnit → sProp 𝕄) :
    iprop(bodyPre X Kc Wc κ c W ∗ (bodyPost X Kc Wc c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8) Kt := by
  simp only [cc0_body_eq_skeleton]; unfold cc0_body_skel
  simp only [k0_part13_eq_skeleton]; unfold k0_part13_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [semSignalWord, semWaitWord, Prog.lift, Prog.bind_op, Prog.bind_ret, Prog.pure_eq_ret, Prog.bind_assoc, wp_deviceId]
  simp only [slcS0, slcS1, slcS2, slcS3, slcS4, slcS5, slcR0, slcR1, slcR2, slcR3, slcR4, slcR5]
  unfold bodyPre opened credits scratch
  iintro ⟨⟨⟨#Hrec, HatB, ⟨HatS0, HatS1, HatS2, HatS3, HatS4, HatS5⟩, ⟨HatR0, HatR1, HatR2, HatR3, HatR4, HatR5⟩,
        ⟨#HrS0, #HrS1, #HrS2, #HrS3, #HrS4, #HrS5⟩, ⟨#HrR0, #HrR1, #HrR2, #HrR3, #HrR4, #HrR5⟩, ⟨HtB0, HtB1, HtB2⟩,
        ⟨HtS0, HtS1, HtS2, HtS3, HtS4, HtS5⟩, ⟨HtR0, HtR1, HtR2, HtR3, HtR4, HtR5⟩⟩,
      ⟨HcB, HcR0, HcR1, HcR2, HcR3, HcR4, HcR5⟩, #Hlev,
      ⟨⟨%f0, Hsr⟩, ⟨%f1, Hrr⟩, ⟨%f2, Hsc⟩, ⟨%f3, Hrc⟩, ⟨%f4, Hsq⟩, ⟨%f5, Hrq⟩, ⟨%f6, Hst⟩⟩, Hx, Hk1, Hw1, ⟨%g, Hout⟩, HO⟩, Hk⟩
  ihave Hst := (stats_rows c f6).1 $$ Hst
  icases Hst with ⟨Hst0, Hst1, Hst2, Hst3⟩
  simp only [dev1_eq c, dev2_eq c, dev3_eq c]
  unfold O₀
  ihave #HbI := (inv_bar X κ (peer 0 c)) $$ Hrec
  ihave #HbR := (reached_bar X κ (peer 0 c)) $$ Hrec
  iapply (Rounds.wp_signal 𝒱₀ ER (Rd X) (c : Thread nD τ) none (dst := (peer 0 c : Thread nD τ)) (κ := κ (barCell (peer 0 c)))
      (d := 0) (by rw [duties_bar]; exact Finset.mem_univ _) ((amount_bar X (peer 0 c) 0).trans (by decide)) () (Ow8 c) rfl)
    $$ [HO HtB0 Hrr Hst1]
  · isplitr; · iexact HbI
    isplitl [HO]; · iexact HO
    isplitl [HtB0]; · iexact HtB0
    isplitl [Hrr Hst1]
    · rw [payload_bar]; unfold barPay; rw [peer_peer]
      isplitl [Hrr]; · iexists f1; iexact Hrr
      isplitl [Hst1]; · iexists f6; iexact Hst1
      isplitr; · iexact HrR0
      iexact HrR3
    · iexact HbR
  iintro HO
  unfold Ow8
  ihave #HbI := (inv_bar X κ (peer 1 c)) $$ Hrec
  ihave #HbR := (reached_bar X κ (peer 1 c)) $$ Hrec
  iapply (Rounds.wp_signal 𝒱₀ ER (Rd X) (c : Thread nD τ) none (dst := (peer 1 c : Thread nD τ)) (κ := κ (barCell (peer 1 c)))
      (d := 1) (by rw [duties_bar]; exact Finset.mem_univ _) ((amount_bar X (peer 1 c) 1).trans (by decide)) () (Ow7 c) rfl)
    $$ [HO HtB1 Hrc Hst2]
  · isplitr; · iexact HbI
    isplitl [HO]; · iexact HO
    isplitl [HtB1]; · iexact HtB1
    isplitl [Hrc Hst2]
    · rw [payload_bar]; unfold barPay; rw [peer_peer]
      isplitl [Hrc]; · iexists f3; iexact Hrc
      isplitl [Hst2]; · iexists f6; iexact Hst2
      isplitr; · iexact HrR1
      iexact HrR4
    · iexact HbR
  iintro HO
  unfold Ow7
  ihave #HbI := (inv_bar X κ (peer 2 c)) $$ Hrec
  ihave #HbR := (reached_bar X κ (peer 2 c)) $$ Hrec
  iapply (Rounds.wp_signal 𝒱₀ ER (Rd X) (c : Thread nD τ) none (dst := (peer 2 c : Thread nD τ)) (κ := κ (barCell (peer 2 c)))
      (d := 2) (by rw [duties_bar]; exact Finset.mem_univ _) ((amount_bar X (peer 2 c) 2).trans (by decide)) () (Ow6 c) rfl)
    $$ [HO HtB2 Hrq Hst3]
  · isplitr; · iexact HbI
    isplitl [HO]; · iexact HO
    isplitl [HtB2]; · iexact HtB2
    isplitl [Hrq Hst3]
    · rw [payload_bar]; unfold barPay; rw [peer_peer]
      isplitl [Hrq]; · iexists f5; iexact Hrq
      isplitl [Hst3]; · iexists f6; iexact Hst3
      isplitr; · iexact HrR2
      iexact HrR5
    · iexact HbR
  iintro HO
  ihave #HbI := (inv_bar X κ c) $$ Hrec
  iapply (Rounds.wp_wait_rest_token 𝒱₀ ER (Rd X) (c : Thread nD τ) none (κ := κ (barCell c))
      (wpE_semWait_eq 𝒱₀ (c : Thread nD τ) none Set.univ) (Set.mem_univ _) () (O := Ow6 c) (W := W) (R := 0) (m := 0) (T := ∅)
      (by rw [expect_bar]; decide)) $$ [HcB HO HatB]
  · isplitr; · iexact HbI
    isplitl [HcB]; · iexact HcB
    isplitl [HO]; · iexact HO
    isplitr; · iapply (mayWait_bar c); iexact Hlev
    iexact HatB
  iintro ⟨HO, HatB, -, Hpay⟩
  ihave Hp := (Entails.of_eq (rest_bar X c)) $$ Hpay
  unfold barPay
  icases Hp with ⟨⟨⟨%h1, Hp0⟩, ⟨%h4, Hq0⟩, #HrP0, #HrP3⟩, ⟨⟨%h2, Hp1⟩, ⟨%h5, Hq1⟩, #HrP1, #HrP4⟩, ⟨%h3, Hp2⟩, ⟨%h6, Hq2⟩, #HrP2, #HrP5⟩
  iapply (wp_load 𝒱₀ (c : Thread nD τ) none Set.univ (m := Memref.whole cc0_stg0_0) (Finset.subset_univ _)) $$ Hx; iintro Hx
  rw [ld_xw]
  iapply (wp_load 𝒱₀ (c : Thread nD τ) none Set.univ (m := Memref.whole cc0_scratch0) (Finset.subset_univ _)) $$ Hsr; iintro Hsr
  iapply (wp_store 𝒱₀ (c : Thread nD τ) none Set.univ (m := Memref.whole cc0_scratch0)
      (r := Rect.unit (s := S2x1x8192) ![0, 0, 0] S2x1x8192.size inb_S2x1x8192_S2x1x8192_0_0_0) (Mk := Finset.univ) (Finset.subset_univ _)) $$ Hsr; iintro Hsr
  rw [st_0]
  iapply (wp_load 𝒱₀ (c : Thread nD τ) none Set.univ (m := Memref.whole cc0_scratch2) (Finset.subset_univ _)) $$ Hsc; iintro Hsc
  iapply (wp_store 𝒱₀ (c : Thread nD τ) none Set.univ (m := Memref.whole cc0_scratch2)
      (r := Rect.unit (s := S2x128x64) ![0, 0, 0] S2x128x64.size inb_S2x128x64_S2x128x64_0_0_0) (Mk := Finset.univ) (Finset.subset_univ _)) $$ Hsc; iintro Hsc
  rw [st_2]
  iapply (wp_load 𝒱₀ (c : Thread nD τ) none Set.univ (m := Memref.whole cc0_scratch4) (Finset.subset_univ _)) $$ Hsq; iintro Hsq
  iapply (wp_store 𝒱₀ (c : Thread nD τ) none Set.univ (m := Memref.whole cc0_scratch4)
      (r := Rect.unit (s := S2x1x64) ![0, 0, 0] S2x1x64.size inb_S2x1x64_S2x1x64_0_0_0) (Mk := Finset.univ) (Finset.subset_univ _)) $$ Hsq; iintro Hsq
  rw [st_4]
  iapply (step_send X κ 0 0 c _ (dev4_eq c) (Memref.whole cc0_scratch0) (Memref.whole cc0_scratch1) fullShare (rowV X c) h1 (Ow6 c) (Ow5 c) _ rfl rfl
      (pay_send0 X c)
      (pay_recv0 X c h1)) $$ [Hsr Hp0 HO HtS0 HtR0]
  · isplitr; · iexact Hrec
    isplitl [Hsr]; · rw [wset]; iexact Hsr
    isplitl [Hp0]; · rw [wset]; iexact Hp0
    isplitl [HO]; · iexact HO
    isplitl [HtS0]; · iexact HtS0
    isplitr; · iexact HrS0
    isplitl [HtR0]; · iexact HtR0
    iexact HrP0
  iintro ⟨HcS0, HO⟩
  iapply (step_send X κ 1 1 c _ (dev5_eq c) (Memref.whole cc0_scratch2) (Memref.whole cc0_scratch3) fullShare (colV X c) h2 (Ow5 c) (Ow4 c) _ rfl rfl
      (pay_send1 X c)
      (pay_recv1 X c h2)) $$ [Hsc Hp1 HO HtS1 HtR1]
  · isplitr; · iexact Hrec
    isplitl [Hsc]; · rw [wset]; iexact Hsc
    isplitl [Hp1]; · rw [wset]; iexact Hp1
    isplitl [HO]; · iexact HO
    isplitl [HtS1]; · iexact HtS1
    isplitr; · iexact HrS1
    isplitl [HtR1]; · iexact HtR1
    iexact HrP1
  iintro ⟨HcS1, HO⟩
  iapply (step_send X κ 2 2 c _ (dev6_eq c) (Memref.whole cc0_scratch4) (Memref.whole cc0_scratch5) fullShare (corV X c) h3 (Ow4 c) (Ow3 c) _ rfl rfl
      (pay_send2 X c)
      (pay_recv2 X c h3)) $$ [Hsq Hp2 HO HtS2 HtR2]
  · isplitr; · iexact Hrec
    isplitl [Hsq]; · rw [wset]; iexact Hsq
    isplitl [Hp2]; · rw [wset]; iexact Hp2
    isplitl [HO]; · iexact HO
    isplitl [HtS2]; · iexact HtS2
    isplitr; · iexact HrS2
    isplitl [HtR2]; · iexact HtR2
    iexact HrP2
  iintro ⟨HcS2, HO⟩
  iapply (wp_load 𝒱₀ (c : Thread nD τ) none Set.univ (m := stM) sub_s0_on) $$ Hst0; iintro Hst0
  iapply (wp_store 𝒱₀ (c : Thread nD τ) none Set.univ (m := stM) (r := rS0) (Mk := Finset.univ) sub_s0) $$ Hst0; iintro Hst0
  iapply (wp_load 𝒱₀ (c : Thread nD τ) none Set.univ (m := stM) sub_s1_on) $$ Hst0; iintro Hst0
  iapply (wp_store 𝒱₀ (c : Thread nD τ) none Set.univ (m := stM) (r := rS1) (Mk := Finset.univ) sub_s1) $$ Hst0; iintro Hst0
  ihave Hst0 := (Entails.of_eq (pointsTo_congr (st_stats X c f6))) $$ Hst0
  ihave Hst0 := (row_quarters c (rowSet 0) (statsV X c)).1 $$ Hst0
  icases Hst0 with ⟨HqA, HqB, HqC, HqD⟩
  iapply (step_send X κ 3 0 c _ (dev7_eq c) sl0 sl1 qA (statsV X c) h4 (Ow3 c) (Ow2 c) _ rfl rfl
      (by rw [sl0_set]; exact BI.Entails.refl _)
      (land_pay X 1 1 rfl _ c (peer 0 c) (peer_peer 0 c) h4)) $$ [HqA Hq0 HO HtS3 HtR3]
  · isplitr; · iexact Hrec
    isplitl [HqA]; · rw [sl0_set]; iexact HqA
    isplitl [Hq0]; · rw [sl1_set]; iexact Hq0
    isplitl [HO]; · iexact HO
    isplitl [HtS3]; · iexact HtS3
    isplitr; · iexact HrS3
    isplitl [HtR3]; · iexact HtR3
    iexact HrP3
  iintro ⟨HcS3, HO⟩
  iapply (step_send X κ 4 1 c _ (dev8_eq c) sl0 sl2 qB (statsV X c) h5 (Ow2 c) (Ow1 c) _ rfl rfl
      (by rw [sl0_set]; exact BI.Entails.refl _)
      (land_pay X 2 2 rfl _ c (peer 1 c) (peer_peer 1 c) h5)) $$ [HqB Hq1 HO HtS4 HtR4]
  · isplitr; · iexact Hrec
    isplitl [HqB]; · rw [sl0_set]; iexact HqB
    isplitl [Hq1]; · rw [sl2_set]; iexact Hq1
    isplitl [HO]; · iexact HO
    isplitl [HtS4]; · iexact HtS4
    isplitr; · iexact HrS4
    isplitl [HtR4]; · iexact HtR4
    iexact HrP4
  iintro ⟨HcS4, HO⟩
  iapply (step_send X κ 5 2 c _ (dev9_eq c) sl0 sl3 qC (statsV X c) h6 (Ow1 c) (Ow0 c) _ rfl rfl
      (by rw [sl0_set]; exact BI.Entails.refl _)
      (land_pay X 3 3 rfl _ c (peer 2 c) (peer_peer 2 c) h6)) $$ [HqC Hq2 HO HtS5 HtR5]
  · isplitr; · iexact Hrec
    isplitl [HqC]; · rw [sl0_set]; iexact HqC
    isplitl [Hq2]; · rw [sl3_set]; iexact Hq2
    isplitl [HO]; · iexact HO
    isplitl [HtS5]; · iexact HtS5
    isplitr; · iexact HrS5
    isplitl [HtR5]; · iexact HtR5
    iexact HrP5
  iintro ⟨HcS5, HO⟩
  unfold Ow0
  iapply (step_wait_recv X κ c 0 _ rfl) $$ [HcR0 HO HatR0]
  · isplitr; · iexact Hrec
    isplitl [HcR0]; · iexact HcR0
    isplitl [HO]; · iexact HO
    iexact HatR0
  iintro ⟨HO, HatR0, Hp0⟩
  ihave Hp0 := (Entails.of_eq (show recvPay X 0 c = pt c cc0_scratch1 fullShare (rowV X (peer 0 c)) from rfl)) $$ Hp0
  iapply (step_wait_recv X κ c 1 _ rfl) $$ [HcR1 HO HatR1]
  · isplitr; · iexact Hrec
    isplitl [HcR1]; · iexact HcR1
    isplitl [HO]; · iexact HO
    iexact HatR1
  iintro ⟨HO, HatR1, Hp1⟩
  ihave Hp1 := (Entails.of_eq (show recvPay X 1 c = pt c cc0_scratch3 fullShare (colV X (peer 1 c)) from rfl)) $$ Hp1
  iapply (step_wait_recv X κ c 2 _ rfl) $$ [HcR2 HO HatR2]
  · isplitr; · iexact Hrec
    isplitl [HcR2]; · iexact HcR2
    isplitl [HO]; · iexact HO
    iexact HatR2
  iintro ⟨HO, HatR2, Hp2⟩
  ihave Hp2 := (Entails.of_eq (show recvPay X 2 c = pt c cc0_scratch5 fullShare (corV X (peer 2 c)) from rfl)) $$ Hp2
  iapply (step_wait_recv X κ c 3 _ rfl) $$ [HcR3 HO HatR3]
  · isplitr; · iexact Hrec
    isplitl [HcR3]; · iexact HcR3
    isplitl [HO]; · iexact HO
    iexact HatR3
  iintro ⟨HO, HatR3, Hst1⟩
  ihave Hst1 := (Entails.of_eq (show recvPay X 3 c = st c (rowSet 1) fullShare (statsV X c) from rfl)) $$ Hst1
  iapply (step_wait_recv X κ c 4 _ rfl) $$ [HcR4 HO HatR4]
  · isplitr; · iexact Hrec
    isplitl [HcR4]; · iexact HcR4
    isplitl [HO]; · iexact HO
    iexact HatR4
  iintro ⟨HO, HatR4, Hst2⟩
  ihave Hst2 := (Entails.of_eq (show recvPay X 4 c = st c (rowSet 2) fullShare (statsV X c) from rfl)) $$ Hst2
  iapply (step_wait_recv X κ c 5 _ rfl) $$ [HcR5 HO HatR5]
  · isplitr; · iexact Hrec
    isplitl [HcR5]; · iexact HcR5
    isplitl [HO]; · iexact HO
    iexact HatR5
  iintro ⟨HO, HatR5, Hst3⟩
  ihave Hst3 := (Entails.of_eq (show recvPay X 5 c = st c (rowSet 3) fullShare (statsV X c) from rfl)) $$ Hst3
  iapply (wp_load 𝒱₀ (c : Thread nD τ) none Set.univ (m := stM) (sub_row_on 0 0 rfl _)) $$ HqD; iintro HqD
  rw [ld_s0]
  iapply (wp_load 𝒱₀ (c : Thread nD τ) none Set.univ (m := stM) (sub_row_on 1 1 rfl _)) $$ Hst1; iintro Hst1
  rw [ld_s1]
  iapply (wp_load 𝒱₀ (c : Thread nD τ) none Set.univ (m := stM) (sub_row_on 2 2 rfl _)) $$ Hst2; iintro Hst2
  rw [ld_s2]
  iapply (wp_load 𝒱₀ (c : Thread nD τ) none Set.univ (m := stM) (sub_row_on 3 3 rfl _)) $$ Hst3; iintro Hst3
  rw [ld_s3]
  iapply (wp_load 𝒱₀ (c : Thread nD τ) none Set.univ (m := Memref.whole cc0_stg1_0) (Finset.subset_univ _)) $$ Hk1; iintro Hk1
  rw [ld_kw]
  iapply (wp_load 𝒱₀ (c : Thread nD τ) none Set.univ (m := Memref.whole cc0_stg2_0) (Finset.subset_univ _)) $$ Hw1; iintro Hw1
  rw [ld_ww]
  iapply (wp_load 𝒱₀ (c : Thread nD τ) none Set.univ (m := Memref.whole cc0_stg0_0) (Finset.subset_univ _)) $$ Hx; iintro Hx
  rw [ld_x0]
  iapply (wp_load 𝒱₀ (c : Thread nD τ) none Set.univ (m := Memref.whole cc0_scratch1) (Finset.subset_univ _)) $$ Hp0; iintro Hp0
  rw [ld_r0]
  iapply (wp_load 𝒱₀ (c : Thread nD τ) none Set.univ (m := Memref.whole cc0_scratch3) (Finset.subset_univ _)) $$ Hp1; iintro Hp1
  rw [ld_c0]
  iapply (wp_load 𝒱₀ (c : Thread nD τ) none Set.univ (m := Memref.whole cc0_scratch5) (Finset.subset_univ _)) $$ Hp2; iintro Hp2
  rw [ld_q0]
  iapply (wp_load 𝒱₀ (c : Thread nD τ) none Set.univ (m := oM) (Finset.subset_univ _)) $$ Hout; iintro Hout
  iapply (wp_store 𝒱₀ (c : Thread nD τ) none Set.univ (m := oM) (r := rO0) (Mk := Finset.univ) (Finset.subset_univ _)) $$ Hout; iintro Hout
  iapply (wp_load 𝒱₀ (c : Thread nD τ) none Set.univ (m := Memref.whole cc0_stg0_0) (Finset.subset_univ _)) $$ Hx; iintro Hx
  rw [ld_x1]
  iapply (wp_load 𝒱₀ (c : Thread nD τ) none Set.univ (m := Memref.whole cc0_scratch1) (Finset.subset_univ _)) $$ Hp0; iintro Hp0
  rw [ld_r1]
  iapply (wp_load 𝒱₀ (c : Thread nD τ) none Set.univ (m := Memref.whole cc0_scratch3) (Finset.subset_univ _)) $$ Hp1; iintro Hp1
  rw [ld_c1]
  iapply (wp_load 𝒱₀ (c : Thread nD τ) none Set.univ (m := Memref.whole cc0_scratch5) (Finset.subset_univ _)) $$ Hp2; iintro Hp2
  rw [ld_q1]
  iapply (wp_load 𝒱₀ (c : Thread nD τ) none Set.univ (m := oM) (Finset.subset_univ _)) $$ Hout; iintro Hout
  iapply (wp_store 𝒱₀ (c : Thread nD τ) none Set.univ (m := oM) (r := rO1) (Mk := Finset.univ) (Finset.subset_univ _)) $$ Hout; iintro Hout
  rw [st_out]
  iapply (step_wait_send X κ c 0 _ (src := Memref.whole cc0_scratch1) (dst := Memref.whole cc0_scratch0) rfl) $$ [HcS0 HO HatS0]
  · isplitr; · iexact Hrec
    isplitl [HcS0]; · iexact HcS0
    isplitl [HO]; · iexact HO
    iexact HatS0
  iintro ⟨HO, HatS0, Hsr⟩
  ihave Hsr := (Entails.of_eq (show sendPay X 0 c = pt c cc0_scratch0 fullShare (rowV X c) from rfl)) $$ Hsr
  iapply (step_wait_send X κ c 1 _ (src := Memref.whole cc0_scratch3) (dst := Memref.whole cc0_scratch2) rfl) $$ [HcS1 HO HatS1]
  · isplitr; · iexact Hrec
    isplitl [HcS1]; · iexact HcS1
    isplitl [HO]; · iexact HO
    iexact HatS1
  iintro ⟨HO, HatS1, Hsc⟩
  ihave Hsc := (Entails.of_eq (show sendPay X 1 c = pt c cc0_scratch2 fullShare (colV X c) from rfl)) $$ Hsc
  iapply (step_wait_send X κ c 2 _ (src := Memref.whole cc0_scratch5) (dst := Memref.whole cc0_scratch4) rfl) $$ [HcS2 HO HatS2]
  · isplitr; · iexact Hrec
    isplitl [HcS2]; · iexact HcS2
    isplitl [HO]; · iexact HO
    iexact HatS2
  iintro ⟨HO, HatS2, Hsq⟩
  ihave Hsq := (Entails.of_eq (show sendPay X 2 c = pt c cc0_scratch4 fullShare (corV X c) from rfl)) $$ Hsq
  iapply (step_wait_send X κ c 3 _ (src := sl1) (dst := sl0) rfl) $$ [HcS3 HO HatS3]
  · isplitr; · iexact Hrec
    isplitl [HcS3]; · iexact HcS3
    isplitl [HO]; · iexact HO
    iexact HatS3
  iintro ⟨HO, HatS3, HqA⟩
  ihave HqA := (Entails.of_eq (show sendPay X 3 c = st c (rowSet 0) qA (statsV X c) from rfl)) $$ HqA
  iapply (step_wait_send X κ c 4 _ (src := sl2) (dst := sl0) rfl) $$ [HcS4 HO HatS4]
  · isplitr; · iexact Hrec
    isplitl [HcS4]; · iexact HcS4
    isplitl [HO]; · iexact HO
    iexact HatS4
  iintro ⟨HO, HatS4, HqB⟩
  ihave HqB := (Entails.of_eq (show sendPay X 4 c = st c (rowSet 0) qB (statsV X c) from rfl)) $$ HqB
  iapply (step_wait_send X κ c 5 _ (src := sl3) (dst := sl0) rfl) $$ [HcS5 HO HatS5]
  · isplitr; · iexact Hrec
    isplitl [HcS5]; · iexact HcS5
    isplitl [HO]; · iexact HO
    iexact HatS5
  iintro ⟨HO, HatS5, HqC⟩
  ihave HqC := (Entails.of_eq (show sendPay X 5 c = st c (rowSet 0) qC (statsV X c) from rfl)) $$ HqC
  rw [wp_ret]
  imod (step_close X κ (Finset.mem_union_left _ (bar_mem c))) $$ [HatB] with HzB
  · isplitr; · iexact Hrec
    iexact HatB
  imod (close_six X κ (fun i => sendCell i c) (fun i => Finset.mem_union_right _ (send_mem i c))) $$ [HatS0 HatS1 HatS2 HatS3 HatS4 HatS5] with HzS
  · isplitr; · iexact Hrec
    isplitl [HatS0]; · iexact HatS0
    isplitl [HatS1]; · iexact HatS1
    isplitl [HatS2]; · iexact HatS2
    isplitl [HatS3]; · iexact HatS3
    isplitl [HatS4]; · iexact HatS4
    iexact HatS5
  imod (close_six X κ (fun i => recvCell i c) (fun i => Finset.mem_union_right _ (recv_mem i c))) $$ [HatR0 HatR1 HatR2 HatR3 HatR4 HatR5] with HzR
  · isplitr; · iexact Hrec
    isplitl [HatR0]; · iexact HatR0
    isplitl [HatR1]; · iexact HatR1
    isplitl [HatR2]; · iexact HatR2
    isplitl [HatR3]; · iexact HatR3
    isplitl [HatR4]; · iexact HatR4
    iexact HatR5
  imodintro
  ihave Hst0 := (row_quarters c (rowSet 0) (statsV X c)).2 $$ [HqA HqB HqC HqD]
  · isplitl [HqA]; · iexact HqA
    isplitl [HqB]; · iexact HqB
    isplitl [HqC]; · iexact HqC
    iexact HqD
  ihave Hst := (stats_rows c (statsV X c)).2 $$ [Hst0 Hst1 Hst2 Hst3]
  · isplitl [Hst0]; · iexact Hst0
    isplitl [Hst1]; · iexact Hst1
    isplitl [Hst2]; · iexact Hst2
    iexact Hst3
  iapply Hk
  unfold bodyPost zeros scratch outV out0 out1 outP0 outP1 meanOf rstdOf
  isplitl [HzB HzS HzR]
  · isplitl [HzB]; · iexact HzB
    isplitl [HzS]; · iexact HzS
    iexact HzR
  isplitl [Hsr Hp0 Hsc Hp1 Hsq Hp2 Hst]
  · isplitl [Hsr]; · iexists _; iexact Hsr
    isplitl [Hp0]; · iexists _; iexact Hp0
    isplitl [Hsc]; · iexists _; iexact Hsc
    isplitl [Hp1]; · iexists _; iexact Hp1
    isplitl [Hsq]; · iexists _; iexact Hsq
    isplitl [Hp2]; · iexists _; iexact Hp2
    iexists _; iexact Hst
  isplitl [Hx]; · iexact Hx
  isplitl [Hk1]; · iexact Hk1
  isplitl [Hw1]; · iexact Hw1
  isplitl [Hout]; · iexact Hout
  iexists _; iexact HO

end Run

end Cert.KernelIdeal.Halo
-- ==== Proof.Launch.lean ====
/-
  The whole run: the region with its six exchanges between the two reshapes of the host, on every device.
-/
module

public import proofs.«01_k».proof.Proof.Ghost
public import proofs.«01_k».proof.Proof.Body
public import proofs.«01_k».proof.Proof.Gen.KernelIdeal.Frame

@[expose] public section

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers along the run -/

/-- The buffers the host and the region share. -/
def hbufs : Finset (DevRef τ sig) := (StableHlo.tcRefs τ sig).filter fun b => ¬ b.isScoped

/-- The launch's buffers are those that the host and the region share. -/
theorem held_unscoped (c : Dev nD) (W : Valuation τ sig (Elt F)) :
    (unscopedBufs c (fun b => W b) : sProp 𝕄) = StableHlo.held (c : Thread nD τ) hbufs W := by
  unfold unscopedBufs StableHlo.held hbufs StableHlo.tcRefs
  rw [Finset.filter_map, BI.bigSep_map]
  rfl

/-- The region's operands and result, by name. -/
theorem held_arrays (c : Dev nD) (W : Valuation τ sig (Elt F)) :
    (StableHlo.held (c : Thread nD τ) (Pipeline.arrRefs (τ := τ) (pcfgs (F := F) 0).spec) W : sProp 𝕄)
      = iprop(pt c main_v1 fullShare (W main_v1) ∗ pt c main_arg1 fullShare (W main_arg1) ∗ pt c main_arg2 fullShare (W main_arg2) ∗ pt c main_v2 fullShare (W main_v2)) := by
  unfold StableHlo.held
  rw [show Pipeline.arrRefs (τ := τ) (pcfgs (F := F) 0).spec = Pipeline.arrRefs (τ := τ) spec0 from rfl,
    bigSep_eq_bigSepL_of_eq [Proc.devRef .tc main_v1, Proc.devRef .tc main_arg1, Proc.devRef .tc main_arg2, Proc.devRef .tc main_v2] (by decide) (by decide)]
  rfl

/-- The two buffers that pass the region by. -/
def aside : Finset (DevRef τ sig) := {Proc.devRef .tc main_arg0, Proc.devRef .tc main_v3}

/-- Those two, by name. -/
theorem held_aside (c : Dev nD) (W : Valuation τ sig (Elt F)) :
    (StableHlo.held (c : Thread nD τ) aside W : sProp 𝕄) = iprop(pt c main_arg0 fullShare (W main_arg0) ∗ pt c main_v3 fullShare (W main_v3)) := by
  unfold StableHlo.held
  rw [bigSep_eq_bigSepL_of_eq [Proc.devRef .tc main_arg0, Proc.devRef .tc main_v3] (by decide) (by decide)]
  rfl

/-- All the shared buffers, by name. -/
theorem held_all (c : Dev nD) (W : Valuation τ sig (Elt F)) :
    (StableHlo.held (c : Thread nD τ) hbufs W : sProp 𝕄)
      = iprop(pt c main_arg0 fullShare (W main_arg0) ∗ pt c main_v3 fullShare (W main_v3)
        ∗ pt c main_v1 fullShare (W main_v1) ∗ pt c main_arg1 fullShare (W main_arg1) ∗ pt c main_arg2 fullShare (W main_arg2) ∗ pt c main_v2 fullShare (W main_v2)) := by
  unfold StableHlo.held
  rw [bigSep_eq_bigSepL_of_eq [Proc.devRef .tc main_arg0, Proc.devRef .tc main_v3, Proc.devRef .tc main_v1, Proc.devRef .tc main_arg1, Proc.devRef .tc main_arg2, Proc.devRef .tc main_v2] (by decide) (by decide)]
  rfl

/-- At launch. -/
def W0 (c : Dev nD) : Valuation τ sig (Elt F) := fun b => m (c, b)

/-- The three operands as the body finds them. -/
def opX (c : Dev nD) : (cc0_stg0_0 : Ref sig .tc).ty.Contents (Elt F) := iblk m c 0 t0_0
/-- The taps. -/
def opK (c : Dev nD) : (cc0_stg1_0 : Ref sig .tc).ty.Contents (Elt F) := iblk m c 1 t0_0
/-- The weights. -/
def opW (c : Dev nD) : (cc0_stg2_0 : Ref sig .tc).ty.Contents (Elt F) := iblk m c 2 t0_0

/-! ## The region -/

/-- What the body holds of the schedule and the scratch buffers before its point, and after it. -/
def keepA (c : Dev nD) : sProp 𝕄 := iprop(entered (opX m) c ∗ scratch c ∗ ∃ r, prngReg c r)
/-- After it: its semaphores at zero and its scratch buffers. -/
def keepB (c : Dev nD) : sProp 𝕄 := iprop(zeros c ∗ scratch c ∗ ∃ r, prngReg c r)

/-- The windows' blocks, what the body keeps between them, and what it owes: everything before its one point, nothing after. -/
def dat (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => outV (opX m) (opK m c) (opW m c) c
    | ⟨_ + 4, h⟩ => absurd h (Nat.not_lt.2 (Nat.le_add_left _ _))
  Φ t := if t.val = 0 then keepA m c else keepB c
  q _ := fullShare
  owed t := if t.val = 0 then O₀ c else 0

/-- The region's configuration is admissible. -/
abbrev adm : (p : Fin 1) → (pcfgs (F := F) p).Adm := fun p => (cfgs p).toPCfg_adm
/-- The same for the one region of the program. -/
def pdats : (p : Fin 1) → (c : Dev nD) → Dat τ (Elt F) Unit ℕ UU ℕ (Pipeline.pin (pcfgs (F := F)) adm p) c
  | 0 => dat m

/-- What is owed before the body. -/
theorem owed_first (c : Dev nD) : (dat (F := F) m c).owed 0 = O₀ c := by
  show (if (0 : Fin (cfg0.N + 1)).val = 0 then O₀ c else 0) = O₀ c; exact if_pos rfl
/-- Nothing is owed after it. -/
theorem owed_last (c : Dev nD) : (dat (F := F) m c).owed (Fin.last _) = 0 := by
  show (if (Fin.last cfg0.N).val = 0 then O₀ c else 0) = 0
  rw [Fin.val_last, if_neg (by rw [show cfg0.N = 1 from N_0]; decide)]
/-- What is kept before the body. -/
theorem keep_first (c : Dev nD) : (dat (F := F) m c).Φ 0 = keepA m c := by
  show (if (0 : Fin (cfg0.N + 1)).val = 0 then keepA m c else keepB c) = keepA m c; exact if_pos rfl
/-- What is kept after it. -/
theorem keep_last (c : Dev nD) : (dat (F := F) m c).Φ (Fin.last _) = keepB c := by
  show (if (Fin.last cfg0.N).val = 0 then keepA m c else keepB c) = keepB c
  rw [Fin.val_last, if_neg (by rw [show cfg0.N = 1 from N_0]; decide)]

/-- A known debt is what the region states as its debt. -/
theorem owes_in (c : Dev nD) (t : Fin (cfg0.N + 1)) (O : CellTallies nD τ sig Unit) (h : (dat (F := F) m c).owed t = O) (W : Waits sig Unit) :
    (owes (c : Thread nD τ) O W : sProp 𝕄) ⊢ ((dat m c).owesAt () t : sProp 𝕄) := by
  unfold Dat.owesAt Pipeline.owesWithin Dat.bound
  rw [h, show (dat (F := F) m c).recorded t = Set.univ from rfl]
  iintro HO; iexists W
  isplitr; · ipureintro; exact fun _ _ => Or.inl trivial
  iexact HO
/-- What the region states as its debt is a known one. -/
theorem owes_out (c : Dev nD) (t : Fin (cfg0.N + 1)) (O : CellTallies nD τ sig Unit) (h : (dat (F := F) m c).owed t = O) :
    ((dat m c).owesAt () t : sProp 𝕄) ⊢ iprop(∃ W, owes (c : Thread nD τ) O W) := by
  unfold Dat.owesAt Pipeline.owesWithin; rw [h]
  iintro ⟨%W, -, HO⟩; iexists W; iexact HO

/-- The input block is fetched before the body. -/
theorem before_x (c : Dev nD) (d) : (dat (F := F) m c).before 0 t0_0 d = opX m c := by
  unfold Dat.before; rw [if_pos (fetch0_0 t0_0)]; rfl
/-- The taps are fetched before the body. -/
theorem before_k (c : Dev nD) (d) : (dat (F := F) m c).before 1 t0_0 d = opK m c := by
  unfold Dat.before; rw [if_pos (fetch0_1 t0_0)]; rfl
/-- The weights are fetched before the body. -/
theorem before_w (c : Dev nD) (d) : (dat (F := F) m c).before 2 t0_0 d = opW m c := by
  unfold Dat.before; rw [if_pos (fetch0_2 t0_0)]; rfl

/-- Owning a whole buffer is its points-to. -/
theorem owns_pt (c : Dev nD) (b : Ref sig .tc) (f : b.ty.Contents (Elt F)) :
    (owns (c : Thread nD τ) (Memref.whole b) fullShare f : sProp 𝕄) = pt c b fullShare f := by
  have h : (owns (c : Thread nD τ) (Memref.whole b) fullShare f : sProp 𝕄) = iprop(∃ g : Buf (Elt F) ((c : Thread nD τ).loc b), ⌜g = f⌝ ∗ pt c b fullShare g) := by
    unfold owns; simp only [Memref.view_whole, View.read_whole, View.set_whole]
  rw [h]
  have h1 : (iprop(∃ g : Buf (Elt F) ((c : Thread nD τ).loc b), ⌜g = f⌝ ∗ pt c b fullShare g) : sProp 𝕄) ⊢ pt c b fullShare f := by
    iintro ⟨%g, %hg, H⟩; subst hg; iexact H
  have h2 : (pt c b fullShare f : sProp 𝕄) ⊢ iprop(∃ g : Buf (Elt F) ((c : Thread nD τ).loc b), ⌜g = f⌝ ∗ pt c b fullShare g) := by
    iintro H; iexists f; isplitr; · ipureintro; rfl
    iexact H
  exact BI.equiv_iff.mp ⟨h1, h2⟩

/-- The input's staging buffer. -/
theorem own_x (c : Dev nD) (f : (cc0_stg0_0 : Ref sig .tc).ty.Contents (Elt F)) :
    (owns (c : Thread nD τ) ((cfg0.win 0).stage (cfg0.slots t0_0 0)) fullShare f : sProp 𝕄) = pt c cc0_stg0_0 fullShare f := owns_pt c cc0_stg0_0 f
/-- The taps' staging buffer. -/
theorem own_k (c : Dev nD) (f : (cc0_stg1_0 : Ref sig .tc).ty.Contents (Elt F)) :
    (owns (c : Thread nD τ) ((cfg0.win 1).stage (cfg0.slots t0_0 1)) fullShare f : sProp 𝕄) = pt c cc0_stg1_0 fullShare f := owns_pt c cc0_stg1_0 f
/-- The weights' staging buffer. -/
theorem own_w (c : Dev nD) (f : (cc0_stg2_0 : Ref sig .tc).ty.Contents (Elt F)) :
    (owns (c : Thread nD τ) ((cfg0.win 2).stage (cfg0.slots t0_0 2)) fullShare f : sProp 𝕄) = pt c cc0_stg2_0 fullShare f := owns_pt c cc0_stg2_0 f
/-- The output's staging buffer. -/
theorem own_o (c : Dev nD) (f : (cc0_stg3_0 : Ref sig .tc).ty.Contents (Elt F)) :
    (owns (c : Thread nD τ) ((cfg0.win 3).stage (cfg0.slots t0_0 3)) fullShare f : sProp 𝕄) = pt c cc0_stg3_0 fullShare f := owns_pt c cc0_stg3_0 f

/-- The region's body meets its obligation. -/
theorem body_ok (c : Dev nD) : BodyObligation (dat (F := F) m c) defs₀ 𝒱₀ () Set.univ := fun t => by
  obtain rfl := fin_N0 t
  rw [bigSep_W0, bigSep_W0]
  have hx : ((dat (F := F) m c).after 0 t0_0) = opX m c := rfl
  have hk : ((dat (F := F) m c).after 1 t0_0) = opK m c := rfl
  have hw : ((dat (F := F) m c).after 2 t0_0) = opW m c := rfl
  have ho : ((dat (F := F) m c).after 3 t0_0) = outV (opX m) (opK m c) (opW m c) c := rfl
  show iprop((dat m c).Φ 0 ∗ (dat m c).owesAt () 0
      ∗ (∃ d, owns (c : Thread nD τ) ((cfg0.win 0).stage (cfg0.slots t0_0 0)) fullShare ((dat m c).before 0 t0_0 d))
      ∗ (∃ d, owns (c : Thread nD τ) ((cfg0.win 1).stage (cfg0.slots t0_0 1)) fullShare ((dat m c).before 1 t0_0 d))
      ∗ (∃ d, owns (c : Thread nD τ) ((cfg0.win 2).stage (cfg0.slots t0_0 2)) fullShare ((dat m c).before 2 t0_0 d))
      ∗ (∃ d, owns (c : Thread nD τ) ((cfg0.win 3).stage (cfg0.slots t0_0 3)) fullShare ((dat m c).before 3 t0_0 d)))
    ⊢ wp frame (wpE (defs₀ (F := F)) 𝒱₀ (c : Thread nD τ) none) Set.univ (bodyAt0 t0_0) (fun _ =>
      iprop((dat m c).Φ (Fin.last _) ∗ (dat m c).owesAt () (Fin.last _)
      ∗ owns (c : Thread nD τ) ((cfg0.win 0).stage (cfg0.slots t0_0 0)) fullShare (opX m c)
      ∗ owns (c : Thread nD τ) ((cfg0.win 1).stage (cfg0.slots t0_0 1)) fullShare (opK m c)
      ∗ owns (c : Thread nD τ) ((cfg0.win 2).stage (cfg0.slots t0_0 2)) fullShare (opW m c)
      ∗ owns (c : Thread nD τ) ((cfg0.win 3).stage (cfg0.slots t0_0 3)) fullShare (outV (opX m) (opK m c) (opW m c) c)))
  simp only [before_x, before_k, before_w, keep_first, keep_last]
  unfold keepA keepB entered
  iintro ⟨⟨⟨⟨%κ, Ho⟩, Hc, Hl⟩, Hsc, Hp⟩, HO, ⟨%d0, Hx⟩, ⟨%d1, Hk⟩, ⟨%d2, Hw⟩, %d3, Hout⟩
  ihave HO' := (owes_out m c 0 (O₀ c) (owed_first m c)) $$ HO
  icases HO' with ⟨%W, HO⟩
  iapply (sound_body (opX m) (opK m c) (opW m c) κ c W)
  isplitl [Ho Hc Hl Hsc HO Hx Hk Hw Hout]
  · unfold bodyPre
    isplitl [Ho]; · iexact Ho
    isplitl [Hc]; · iexact Hc
    isplitl [Hl]; · iexact Hl
    isplitl [Hsc]; · iexact Hsc
    isplitl [Hx]; · iapply (Entails.of_eq (own_x c (opX m c))); iexact Hx
    isplitl [Hk]; · iapply (Entails.of_eq (own_k c (opK m c))); iexact Hk
    isplitl [Hw]; · iapply (Entails.of_eq (own_w c (opW m c))); iexact Hw
    isplitl [Hout]; · iexists ((dat m c).before 3 t0_0 d3); iapply (Entails.of_eq (own_o c ((dat m c).before 3 t0_0 d3))); iexact Hout
    iexact HO
  unfold bodyPost
  iintro ⟨Hz, Hsc, Hx, Hk, Hw, Hout, %W', HO⟩
  isplitl [Hz Hsc Hp]
  · isplitl [Hz]; · iexact Hz
    isplitl [Hsc]; · iexact Hsc
    iexact Hp
  isplitl [HO]; · iapply (owes_in m c (Fin.last _) 0 (owed_last m c) W'); iexact HO
  isplitl [Hx]; · iapply (Entails.of_eq (own_x c (opX m c)).symm); iexact Hx
  isplitl [Hk]; · iapply (Entails.of_eq (own_k c (opK m c)).symm); iexact Hk
  isplitl [Hw]; · iapply (Entails.of_eq (own_w c (opW m c)).symm); iexact Hw
  iapply (Entails.of_eq (own_o c (outV (opX m) (opK m c) (opW m c) c)).symm); iexact Hout

/-- What the launch needs of the region's windows. -/
theorem launchWhole : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- After the region: its result array as the write-back leaves it, every other buffer as it was. -/
def W2 (c : Dev nD) : Valuation τ sig (Elt F) := Function.update (V0 m c) (Proc.devRef .tc main_v2) ((dat m c).arrAt 3 cfg0.N)
/-- After the second reshape. -/
def W3 (c : Dev nD) : Valuation τ sig (Elt F) := StableHlo.after hostOps1 (W2 m c)

/-- The region's result array. -/
theorem W2_v2 (c : Dev nD) : W2 m c (Proc.devRef .tc main_v2) = (dat m c).arrAt 3 cfg0.N := by
  unfold W2; exact Function.update_self ..
/-- Every other buffer. -/
theorem W2_ne (c : Dev nD) (b : DevRef τ sig) (h : b ≠ Proc.devRef .tc main_v2) : W2 m c b = V0 m c b := by
  unfold W2; exact Function.update_of_ne h ..

/-- What is owed lies above the fetches' level. -/
theorem above_zero (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · rcases O₀_pos h with ⟨j, d, rfl⟩ | ⟨d, rfl⟩
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

/-- The semaphores the blocks are fetched and written back on are below everything owed. -/
theorem stage_role : ∀ (w : Fin 4) (s : Fin (spec0 w).nbuf), role (.dma ((spec0 w).sem s)) = .none := by decide
/-- The fetches' semaphores are at the lowest level. -/
theorem stage_low (c : Dev nD) (w : Fin 4) (s : Fin (spec0 w).nbuf) : lv ((c : Thread nD τ), .dma ((spec0 w).sem s)) () ≤ 0 := by
  unfold lv; rw [show role _ = Role.none from stage_role w s]

/-- What the region hands back of the schedule. -/
def closedBar (c : Dev nD) : sProp 𝕄 := semVal (barCell c) 0

/-- What the region is entered with is what the body takes. -/
theorem region_in (c : Dev nD) : iprop(Pipeline.scopedRest (Pipeline.pin (pcfgs (F := F)) adm 0).spec c ∗ (∃ r, prngReg c r)
      ∗ StableHlo.held (c.tc : Thread nD τ) ∅ (V0 m c) ∗ entered (opX m) c) ⊢ (pdats m 0 c).Φ 0 := by
  rw [show (pdats m 0 c).Φ 0 = keepA m c from keep_first m c,
    show (Pipeline.scopedRest (Pipeline.pin (pcfgs (F := F)) adm 0).spec c : sProp 𝕄) = scratch c from scopedRest0_eq c]
  unfold keepA
  iintro ⟨Hs, Hp, -, He⟩
  isplitl [He]; · iexact He
  isplitl [Hs]; · iexact Hs
  iexact Hp

/-- What the body leaves is what the region hands back. -/
theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W2 m c) ∗ Pipeline.ownSems0 osem c ∗ closedBar c) := by
  rw [show (pdats m 0 c).Φ (Fin.last _) = keepB c from keep_last m c, ownSems_eq,
    show (Pipeline.scopedRest (Pipeline.pin (pcfgs (F := F)) adm 0).spec c : sProp 𝕄) = scratch c from scopedRest0_eq c,
    show (StableHlo.held (c.tc : Thread nD τ) ∅ (W2 m c) : sProp 𝕄) = BI.emp from BI.bigSep_empty]
  unfold keepB zeros closedBar
  iintro ⟨⟨Hb, Hz⟩, Hs, Hp⟩
  isplitl [Hs]; · iexact Hs
  isplitl [Hp]; · iexact Hp
  isplitr; · iempintro
  isplitl [Hz]; · iexact Hz
  iexact Hb

/-- A window's array as the region finds it. -/
theorem arr_in (c : Dev nD) (w : Fin 4) : (pdats (F := F) m 0 c).arrAt w 0 = V0 m c (Proc.devRef .tc (Pipeline.arrRef spec0 w)) := rfl

/-- A window's array as the region leaves it. -/
theorem arr_out (c : Dev nD) (w : Fin 4) : (pdats (F := F) m 0 c).arrAt w (Pipeline.pin (pcfgs (F := F)) adm 0).N = W2 m c (Proc.devRef .tc (Pipeline.arrRef spec0 w)) := by
  match w with
  | 0 => exact ((dat m c).arrAt_in 0 rfl _).trans (W2_ne m c (Proc.devRef .tc main_v1) (StableHlo.devRef_ne_of_ne (by decide))).symm
  | 1 => exact ((dat m c).arrAt_in 1 rfl _).trans (W2_ne m c (Proc.devRef .tc main_arg1) (StableHlo.devRef_ne_of_ne (by decide))).symm
  | 2 => exact ((dat m c).arrAt_in 2 rfl _).trans (W2_ne m c (Proc.devRef .tc main_arg2) (StableHlo.devRef_ne_of_ne (by decide))).symm
  | 3 => exact (W2_v2 m c).symm

local notation "ℍ" => Pipeline.HostSeg (Name := ℕ) (U := UU) (pcfgs (F := F)) defs₀ 𝒱₀ L lv
local notation "ℝ" => Pipeline.RegionSeg (pcfgs (F := F)) adm (pdats m) () defs₀ 𝒱₀ L lv

set_option backward.isDefEq.respectTransparency.types false in
/-- The region, its exchange opened at entry and closed at exit. -/
def region : ℝ 0 :=
  Pipeline.RegionSeg.ofTalk (pcfgs (F := F)) adm (pdats m) () defs₀ 𝒱₀ L lv 0 osem (by decide : Pipeline.OwnSemFacts spec0 osem)
    ∅ aside (Finset.empty_subset _) launchWhole rfl (fun c => (body_ok m c).loose)
    (fun _ => 0) O₀ (fun c => (owed_first m c).trans (zero_add _).symm) (owed_last m) (fun _ => rfl) (fun c w => ite_self _)
    (V0 m) (W2 m) (fun c b hb => W2_ne m c b (by rintro rfl; revert hb; decide))
    (before (opX m)) closedBar (entered (opX m)) closedBar (enter (opX m)) (region_in m) (region_out m)
    (fun c => by iintro H; imodintro; iexact H)
    (fun _ => 0)
    ⟨fun c w s => by rw [show L _ = {()} from L_tc c _]; exact Finset.mem_singleton_self _, fun c w s => stage_low c w s, fun c t g i h => above_zero m c t g i h⟩
    (fun _ => iprop(emp))
    (fun c w => arr_in m c w) (fun c w => arr_out m c w)

/-! ## The three segments -/

/-- What rides beside the buffers up to the region. -/
def beside (c : Dev nD) : sProp 𝕄 := iprop(before (opX m) c ∗ (∃ r, prngReg c r) ∗ ∃ W, owes (c : Thread nD τ) (O₀ c) W)
/-- And after it. -/
def besideAfter (c : Dev nD) : sProp 𝕄 := iprop(semVal (barCell c) 0 ∗ ∃ W, owes (c : Thread nD τ) (0 : CellTallies nD τ sig Unit) W)

/-- The first reshape touches shared buffers only. -/
theorem in_hbufs0 : ∀ op ∈ (hostOps0 : List (HloOp τ sig (Elt F))), op.bufs ⊆ hbufs := fun op h => by
  simp only [List.mem_singleton] at h; subst h
  show ({Proc.devRef .tc main_arg0, Proc.devRef .tc main_v1} : Finset (DevRef τ sig)) ⊆ hbufs; decide
/-- So does the second. -/
theorem in_hbufs1 : ∀ op ∈ (hostOps1 : List (HloOp τ sig (Elt F))), op.bufs ⊆ hbufs := fun op h => by
  simp only [List.mem_singleton] at h; subst h
  show ({Proc.devRef .tc main_v2, Proc.devRef .tc main_v3} : Finset (DevRef τ sig)) ⊆ hbufs; decide
/-- The first reshape takes no new buffer. -/
theorem no_fresh0 : ∀ op ∈ (hostOps0 : List (HloOp τ sig (Elt F))), op.fresh = ∅ := fun op h => by
  simp only [List.mem_singleton] at h; subst h; rfl
/-- Nor does the second. -/
theorem no_fresh1 : ∀ op ∈ (hostOps1 : List (HloOp τ sig (Elt F))), op.fresh = ∅ := fun op h => by
  simp only [List.mem_singleton] at h; subst h; rfl

/-- The first reshape, as a segment. -/
def host0 : ℍ := Pipeline.HostSeg.ofOps _ _ _ _ _ hbufs hostOps0 in_hbufs0 no_fresh0 (W0 m) (beside m)
/-- The second reshape, as a segment. -/
def host1 : ℍ := Pipeline.HostSeg.ofOps _ _ _ _ _ hbufs hostOps1 in_hbufs1 no_fresh1 (W2 m) besideAfter

/-- What the first reshape leaves is what the region takes. -/
theorem to_region (c : Dev nD) : iprop(StableHlo.held (c : Thread nD τ) hbufs (V0 m c) ∗ beside m c) ⊢ (region m).pre c := by
  show _ ⊢ iprop(StableHlo.held (c.tc : Thread nD τ) (Pipeline.arrRefs (τ := τ) (pcfgs (F := F) 0).spec) (V0 m c) ∗ (∃ r, prngReg c r)
    ∗ (StableHlo.held (c.tc : Thread nD τ) aside (V0 m c) ∗ emp) ∗ before (opX m) c ∗ ∃ Wd, owes (c : Thread nD τ) (0 + O₀ c) Wd)
  rw [held_arrays, held_aside, held_all, zero_add]
  unfold beside
  iintro ⟨⟨Ha, Hv, Hx, Hk, Hw, Ho⟩, HB, Hp, HO⟩
  isplitl [Hx Hk Hw Ho]
  · isplitl [Hx]; · iexact Hx
    isplitl [Hk]; · iexact Hk
    isplitl [Hw] <;> iassumption
  isplitl [Hp]; · iexact Hp
  isplitl [Ha Hv]
  · isplitl [Ha Hv]
    · isplitl [Ha] <;> iassumption
    iempintro
  isplitl [HB]; · iexact HB
  iexact HO

/-- What the region leaves is what the second reshape takes. -/
theorem from_region (c : Dev nD) : (region m).post c ⊢ iprop(StableHlo.held (c : Thread nD τ) hbufs (W2 m c) ∗ besideAfter c) := by
  show iprop(StableHlo.held (c.tc : Thread nD τ) (Pipeline.arrRefs (τ := τ) (pcfgs (F := F) 0).spec) (W2 m c) ∗ (∃ r, prngReg c r)
    ∗ (StableHlo.held (c.tc : Thread nD τ) aside (W2 m c) ∗ emp) ∗ closedBar c ∗ ∃ Wd, owes (c : Thread nD τ) (0 : CellTallies nD τ sig Unit) Wd) ⊢ _
  rw [held_arrays, held_aside, held_all]
  unfold besideAfter closedBar
  iintro ⟨⟨Hx, Hk, Hw, Ho⟩, -, ⟨⟨Ha, Hv⟩, -⟩, Hb, HO⟩
  isplitr [Hb HO]
  · isplitl [Ha]; · iexact Ha
    isplitl [Hv]; · iexact Hv
    isplitl [Hx]; · iexact Hx
    isplitl [Hk]; · iexact Hk
    isplitl [Hw] <;> iassumption
  isplitl [Hb] <;> iassumption

/-- @main, as the list of its segments. -/
def parts : List (Pipeline.Seg (pcfgs (F := F)) adm (pdats m) () defs₀ 𝒱₀ L lv) :=
  [.host (host0 m), .region (region m), .host (host1 m)]

/-! ## The launch -/

/-- The launch's ghost element: the fetches' and the schedule's. -/
def u₀ : UU :=
  (initOf (Pipeline.cells (Pipeline.pin (pcfgs (F := F)) adm) cellOf_inj) (Pipeline.launchToks (Pipeline.pin (pcfgs (F := F)) adm) cellOf_inj),
    launchOf barCells scCells allDuties)

/-- The schedule's element, parked on device 0 until it is dealt. -/
def parked (c : Dev nD) : sProp 𝕄 := if c = 0 then BI.own (ER (launchOf barCells scCells allDuties)) else iprop(emp)

/-- Parked on one device, the element is whole. -/
theorem parked_eq : bigSep Finset.univ (parked (F := F)) = BI.own (ER (launchOf barCells scCells allDuties)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What a device starts @main with. -/
abbrev startAt (c : Dev nD) : sProp 𝕄 := iprop(StableHlo.held (c : Thread nD τ) hbufs (W0 m c) ∗ beside m c)
/-- What it ends @main with. -/
abbrev endAt (c : Dev nD) : sProp 𝕄 := iprop(StableHlo.held (c : Thread nD τ) hbufs (W3 m c) ∗ semVal (barCell c) 0)

/-- What a device is launched with beside the schedule. -/
def gear (c : Dev nD) : sProp 𝕄 :=
  iprop(StableHlo.held (c : Thread nD τ) hbufs (W0 m c) ∗ credits c ∗ owes (c : Thread nD τ) (O₀ c) ∅ ∗ ∃ r, prngReg c r)

/-- A device's share of the launch is what it starts with. -/
theorem start_intro (κ : GSem nD τ sig → ℕ) (c : Dev nD) : iprop(records (opX m) κ ∗ (linear c ∗ gear m c)) ⊢ startAt m c := by
  unfold gear startAt beside before
  iintro ⟨#HR, Hl, Hh, Hc, HO, Hp⟩
  isplitl [Hh]; · iexact Hh
  isplitl [Hl Hc]
  · isplitl [Hl]
    · iexists κ
      isplitr; · iexact HR
      iexact Hl
    iexact Hc
  isplitl [Hp]; · iexact Hp
  iexists ∅; iexact HO

/-- The only semaphore outside the region is the barrier. -/
theorem freeSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch: every cell's invariant is made, and everything is dealt. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (startAt m) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(gear m c ∗ (semVal (barCell c) 0 ∗ parked c)) : sProp 𝕄) := by
    rw [show unscopedBufs c (fun b => m ((c : Thread nD τ).loc b)) = StableHlo.held (c : Thread nD τ) hbufs (W0 m c) from held_unscoped c (W0 m c), freeSems_eq]
    unfold gear
    iintro ⟨Hh, Hb, HO, Hcr, Hp, HG⟩
    ihave Hc := (credits_of (F := F) c) $$ Hcr
    isplitl [Hh Hc HO Hp]
    · isplitl [Hh]; · iexact Hh
      isplitl [Hc]; · iexact Hc
      isplitl [HO]; · iexact HO
      iexists (ρ c); iexact Hp
    isplitl [Hb] <;> iassumption
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ parked c))
      ⊢ (bigSep Finset.univ fun c : Dev nD => iprop(gear m c ∗ (semVal (barCell c) 0 ∗ parked c)) : sProp 𝕄) := bigSep_mono fun c _ => hone c
  iintro ⟨H, -⟩
  ihave H1 := hall $$ H
  ihave H2 := (Entails.of_eq (bigSep_sep' _ _ _)) $$ H1; icases H2 with ⟨HB, H3⟩
  ihave H4 := (Entails.of_eq (bigSep_sep' _ _ _)) $$ H3; icases H4 with ⟨Hv, HG⟩
  ihave Hu := (Entails.of_eq (parked_eq (F := F))) $$ HG
  ihave Hv' := (Entails.of_eq (bigSep_barCells fun g => (semVal g 0 : sProp 𝕄)).symm) $$ Hv
  imod (Rounds.fund_launch ER (Rd (opX m)) cells_disjoint (fun g _ h => h) allDuties) $$ [Hv' Hu] with ⟨%κ, -, #Hinv, #Hr, Hat, Hopen, Htok⟩
  · isplitl [Hv'] <;> iassumption
  ihave Hat' := (Entails.of_eq (bigSep_barCells fun g => (atPos ER g 0 ∅ 0 : sProp 𝕄))) $$ Hat
  ihave Hopen' := (Entails.of_eq (bigSep_scCells fun g => (openTok ER g : sProp 𝕄))) $$ Hopen
  ihave Htok' := (Entails.of_eq (allDuties_eq (F := F))) $$ Htok
  ihave Hpay := (toks_dealt (F := F)) $$ Htok'
  imodintro
  iapply (bigSep_with_persistent (R := records (opX m) κ) (Φ := fun c => iprop(linear c ∗ gear m c)) fun c _ => start_intro m κ c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat']; · iexact Hat'
    iapply (Entails.of_eq (bigSep_sep' _ _ _).symm); isplitl [Hopen']; · iexact Hopen'
    iexact Hpay
  · iexact HB

/-- The only semaphore outside the region is the barrier's, by name. -/
theorem only_bar : ∀ sm : SemLoc sig, sm.isScoped .tc = false → sm = .reg barS := by decide

set_option backward.isDefEq.respectTransparency.types false in
/-- Every run of @main from zero counters ends, with every buffer of the host at `W3` and every counter at zero. -/
theorem run_all : θ_run defs (onTc (τ := τ) (main (F := F))) (s₀ m ρ)
    (fun r => (∀ c : Dev nD, r.2.mem ((c : Thread nD τ).loc main_arg0) = W3 m c main_arg0 ∧ r.2.mem ((c : Thread nD τ).loc main_arg1) = W3 m c main_arg1
        ∧ r.2.mem ((c : Thread nD τ).loc main_arg2) = W3 m c main_arg2 ∧ r.2.mem ((c : Thread nD τ).loc main_v3) = W3 m c main_v3) ∧ r.2.sem = fun _ => 0) :=
  Pipeline.θ_run_regions_kit_sems (pcfgs (F := F)) adm (pdats m) () cellOf_inj EP defs₀ 𝒱₀ L lv m ρ main (parts m)
    (fun c Q => by rw [main_segs adm (pdats m) () 𝒱₀ L lv (host0 m) (host1 m) (region m) rfl rfl c]; rfl)
    (by simp only [parts, Pipeline.Seg.pipes_host, Pipeline.Seg.pipes_region, Pipeline.Seg.pipes_nil]; decide)
    (O₀ := O₀) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_eq]; iexact HX)
    (T₀ := startAt m) (Tₙ := endAt m)
    (hch := by
      refine ⟨fun c => .rfl, fun c => to_region m c, fun c => from_region m c, fun c => ?_⟩
      show iprop(StableHlo.held (c : Thread nD τ) hbufs (W3 m c) ∗ besideAfter c)
        ⊢ iprop(endAt m c ∗ ∃ W, owes (c : Thread nD τ) (0 : CellTallies nD τ sig Unit) W)
      unfold besideAfter
      iintro ⟨Hh, Hb, HO⟩
      isplitr [HO]
      · isplitl [Hh] <;> iassumption
      · iexact HO)
    (hinit := launch m ρ)
    (QY := fun c s => (s.mem ((c : Thread nD τ).loc main_arg0) = W3 m c main_arg0 ∧ s.mem ((c : Thread nD τ).loc main_arg1) = W3 m c main_arg1
        ∧ s.mem ((c : Thread nD τ).loc main_arg2) = W3 m c main_arg2 ∧ s.mem ((c : Thread nD τ).loc main_v3) = W3 m c main_v3) ∧ s.sem (barCell c) = 0)
    (hfin := fun c s' => by
      dsimp only [endAt]; rw [held_all]
      iintro ⟨⟨⟨Ha, Hv, -, Hk, Hw, -⟩, Hb⟩, HSI⟩
      icombine HSI Ha gives %ha
      icombine HSI Hk gives %hk
      icombine HSI Hw gives %hw
      icombine HSI Hv gives %hv
      icombine HSI Hb gives %hb
      imodintro
      isplitr
      · ipureintro
        exact ⟨⟨Buf.eq_of_forall_mem_univ ha, Buf.eq_of_forall_mem_univ hk, Buf.eq_of_forall_mem_univ hw, Buf.eq_of_forall_mem_univ hv⟩, by simpa using hb⟩
      iexact HSI)
    (hQ := fun s h hs => ⟨fun c => (h c).1, sem_eq_zero hs fun c sm hsm => by
        obtain rfl := only_bar sm hsm
        exact (h c).2⟩)

/-! ## What the run leaves -/

/-- A buffer that neither reshape nor the region writes is as it was at launch. -/
theorem W3_ne (c : Dev nD) (b : Ref sig .tc) (h3 : b ≠ main_v3) (h2 : b ≠ main_v2) (h1 : b ≠ main_v1) : W3 m c b = m ((c : Thread nD τ).loc b) := by
  unfold W3 hostOps1
  rw [StableHlo.after_cons, StableHlo.after_nil]
  rw [StableHlo.reshape_result_ne (h := h3)]
  rw [W2_ne m c _ (StableHlo.devRef_ne_of_ne h2)]
  show StableHlo.after hostOps0 (fun b => m (c, b)) b = _
  unfold hostOps0
  rw [StableHlo.after_cons, StableHlo.after_nil, StableHlo.reshape_result_ne (h := h1)]

end Cert.KernelIdeal.Halo
-- ==== Proof.Frames.lean ====
/-
  The frames: both readings of the kernel and the reference end with their arguments unchanged and every counter at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem Cert.KernelIdeal.Halo

/-! ## The kernel -/

/-- No argument is one of the buffers the two reshapes and the region write. -/
theorem args_unchanged {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0 :=
  (θ_run Cert.KernelIdeal.defs _ _).mono (fun _ h => ⟨fun c =>
      ⟨(h.1 c).1.trans (W3_ne m c Cert.KernelIdeal.main_arg0 (by decide) (by decide) (by decide)),
        (h.1 c).2.1.trans (W3_ne m c Cert.KernelIdeal.main_arg1 (by decide) (by decide) (by decide)),
        (h.1 c).2.2.1.trans (W3_ne m c Cert.KernelIdeal.main_arg2 (by decide) (by decide) (by decide))⟩, h.2⟩)
    (run_all m ρ)

/-- The two readings share their bodies. -/
theorem bodies_eq : Cert.Kernel.defs₀ (F := Bits) = Cert.KernelIdeal.defs₀ (F := Bits) := by
  refine congrArg Defs.onTc (funext fun l => funext fun a => ?_)
  match l, a with
  | 0, (t, s) => rfl

/-- And so their tables of programs. -/
theorem defs_eq : Cert.Kernel.defs (F := Bits) = Cert.KernelIdeal.defs (F := Bits) :=
  congrArg (fun d => Pipeline.defs Cert.KernelIdeal.pcfgs d) bodies_eq

/-- The kernel on words: its text is the one proved, so its run is. -/
theorem kernel_quiescent : Cert.quiescent_Kernel := by
  intro m ρ _
  rw [defs_eq]
  exact args_unchanged (F := Bits) m ρ

/-- The kernel on exact numbers, from any memory. -/
theorem ideal_quiescent : Cert.quiescent_KernelIdeal := fun m ρ _ => args_unchanged m ρ

/-! ## The reference -/

/-- The reference writes no argument and declares no semaphore. -/
theorem reference_quiescent : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Finite.lean ====
/-
  The precondition's shapes, and the frames read from memories that satisfy it.
-/
module

public import proofs.«01_k».proof.Proof.Frames

@[expose] public section

noncomputable section

namespace Cert.Proof

open Idealize.ShloMosaic Idealize.SL.Sem Cert.KernelIdeal.Halo

/-! ## What the precondition's two readings state of their shapes -/

/-- The shapes of the precondition on one device's blocks. -/
instance blockPre : Cert.Pre_finite_x_k_KernelIdeal.Facts where
  bcast_S_S2x128x128x64 := by decide
  reducesTo_S2x128x128x64_S_d0_1_2_3 := by decide
  h_S_ := by decide
  bcast_S_S3x3x64 := by decide
  reducesTo_S3x3x64_S_d0_1_2 := by decide

/-- The shapes of the precondition on the whole arrays. -/
instance wholePre : Cert.Pre_finite_x_k_ReferenceIdeal.Facts where
  bcast_S_S2x256x256x64 := by decide
  reducesTo_S2x256x256x64_S_d0_1_2_3 := by decide
  h_S_ := by decide
  bcast_S_S3x3x64 := by decide
  reducesTo_S3x3x64_S_d0_1_2 := by decide

/-! ## The frames -/

/-- The kernel on exact numbers from a memory of finite inputs. -/
theorem ideal_quiescent_finite : Cert.quiescent_KernelIdeal_pre_finite_x_k_KernelIdeal := fun m ρ _ => args_unchanged m ρ

/-- The reference from a memory of finite inputs. -/
theorem reference_quiescent_finite : Cert.quiescent_ReferenceIdeal_pre_finite_x_k_ReferenceIdeal := fun m ρ _ =>
  reference_quiescent m ρ trivial

end Cert.Proof

end
-- ==== Proof.Image.lean ====
/-
  One channel of one image on exact numbers: a three by three depthwise convolution of the image normalized over
  all of its positions.  Normalizing first and convolving afterwards gives the same number as convolving first and
  correcting by the mean and the deviation afterwards.
-/
module

public import Idealize.ShloMosaic.Lib.Pointwise

@[expose] public section

noncomputable section

namespace Cert.Image

open Idealize.ShloMosaic

/-! ## Positions -/

/-- The row (or column) that position `n` of the image with its border repeated once on either side shows. -/
def edge (n : ℕ) : Fin 256 := ⟨min (n - 1) 255, by omega⟩

/-- The sum over all positions of an image. -/
def total {M : Type} [AddCommMonoid M] (y : Fin 256 → Fin 256 → M) : M := ∑ R, ∑ C, y R C

/-- The convolution at row `R` and column `C`: the nine products added row by row. -/
def taps {M : Type} [Add M] [Mul M] (y : Fin 256 → Fin 256 → M) (k : Fin 3 → Fin 3 → M) (R C : ℕ) : M :=
  y (edge R) (edge C) * k 0 0 + y (edge R) (edge (C + 1)) * k 0 1 + y (edge R) (edge (C + 2)) * k 0 2
    + y (edge (R + 1)) (edge C) * k 1 0 + y (edge (R + 1)) (edge (C + 1)) * k 1 1 + y (edge (R + 1)) (edge (C + 2)) * k 1 2
    + y (edge (R + 2)) (edge C) * k 2 0 + y (edge (R + 2)) (edge (C + 1)) * k 2 1 + y (edge (R + 2)) (edge (C + 2)) * k 2 2

/-- The number of positions of an image, as the program's literal. -/
def count : EReal := Ideal.ofBits .f32 0x47800000#32
/-- The program's small number that keeps the deviation away from zero. -/
def tiny : EReal := Ideal.ofBits .f32 0x3727C5AC#32

/-- There are 65536 elements in a channel. -/
theorem count_eq : count = ((65536 : ℝ) : EReal) := by
  simp [count, Ideal.ofBits, Ideal.ieee, -EReal.coe_mul]; norm_num

/-- The constant under the root is positive. -/
theorem tiny_pos : ∃ e : ℝ, 0 < e ∧ tiny = (e : EReal) := by
  refine ⟨((2 ^ 23 + 2606508 : ℕ) : ℝ) * (2 : ℝ) ^ (-40 : ℤ), by positivity, ?_⟩
  simp [tiny, Ideal.ofBits, Ideal.ieee, -EReal.coe_mul]

/-! ## The two orders of work -/

section Two

variable (y : Fin 256 → Fin 256 → EReal) (k : Fin 3 → Fin 3 → EReal)

/-- The mean over all positions. -/
def mean : EReal := Ideal.div (total y) count

/-- Convolve, then take off the mean times the sum of the taps and multiply by the inverse deviation. -/
def late (R C : ℕ) : EReal :=
  (taps y k R C - mean y * ∑ i, ∑ j, k i j)
    * Ideal.rsqrt (Ideal.div (total fun R C => y R C * y R C) count - mean y * mean y + tiny)

/-- The normalized image. -/
def normal (R C : Fin 256) : EReal :=
  Ideal.div (y R C - mean y) (Ideal.sqrt (Ideal.div (total fun R C => (y R C - mean y) * (y R C - mean y)) count + tiny))

/-- Normalize, then convolve. -/
def early (R C : ℕ) : EReal := taps (normal y) k R C

end Two

/-! ## They agree on finite numbers -/

/-- A sum of reals is a real. -/
theorem coe_total (y : Fin 256 → Fin 256 → ℝ) : total (fun R C => (y R C : EReal)) = ((total y : ℝ) : EReal) := by
  let f : ℝ →+ EReal := ⟨⟨fun r => (r : EReal), EReal.coe_zero⟩, EReal.coe_add⟩
  unfold total
  rw [show ((∑ R, ∑ C, y R C : ℝ) : EReal) = f (∑ R, ∑ C, y R C) from rfl, map_sum]
  exact Finset.sum_congr rfl fun R _ => (map_sum f _ _).symm

/-- The mean square less the squared mean is the mean squared distance from the mean. -/
theorem spread (y : Fin 256 → Fin 256 → ℝ) (m : ℝ) (hm : m = total y * (1 / 65536)) :
    (total fun R C => (y R C - m) * (y R C - m)) * (1 / 65536) = (total fun R C => y R C * y R C) * (1 / 65536) - m * m := by
  have e : (total fun R C => (y R C - m) * (y R C - m)) = (total fun R C => y R C * y R C) - 2 * m * total y + 65536 * (m * m) := by
    unfold total
    rw [Finset.mul_sum, ← Finset.sum_sub_distrib]
    rw [show (65536 : ℝ) * (m * m) = ∑ _R : Fin 256, 256 * (m * m) by simp; ring, ← Finset.sum_add_distrib]
    refine Finset.sum_congr rfl fun R _ => ?_
    rw [Finset.mul_sum, ← Finset.sum_sub_distrib, show (256 : ℝ) * (m * m) = ∑ _C : Fin 256, m * m by simp, ← Finset.sum_add_distrib]
    exact Finset.sum_congr rfl fun C _ => by ring
  rw [e]
  have h : total y = 65536 * m := by rw [hm]; ring
  rw [h]; ring

/-- On finite numbers the two orders of work give the same. -/
theorem late_eq_early {y : Fin 256 → Fin 256 → EReal} {k : Fin 3 → Fin 3 → EReal} (hy : ∀ R C, ∃ r : ℝ, y R C = r)
    (hk : ∀ i j, ∃ r : ℝ, k i j = r) (R C : ℕ) : late y k R C = early y k R C := by
  obtain ⟨Y, rfl⟩ : ∃ Y : Fin 256 → Fin 256 → ℝ, y = fun R C => (Y R C : EReal) :=
    ⟨fun R C => (hy R C).choose, funext fun R => funext fun C => (hy R C).choose_spec⟩
  obtain ⟨L, rfl⟩ : ∃ L : Fin 3 → Fin 3 → ℝ, k = fun i j => (L i j : EReal) :=
    ⟨fun i j => (hk i j).choose, funext fun i => funext fun j => (hk i j).choose_spec⟩
  obtain ⟨e, he, ht⟩ := tiny_pos
  have hn : (65536 : ℝ) ≠ 0 := by norm_num
  obtain ⟨m, hm⟩ : ∃ m : ℝ, m = total Y * (1 / 65536) := ⟨_, rfl⟩
  have hmean : mean (fun R C => (Y R C : EReal)) = (m : EReal) := by
    rw [mean, count_eq, coe_total, Ideal.div_coe hn, ← EReal.coe_mul, ← hm]
  obtain ⟨v, hv⟩ : ∃ v : ℝ, v = (total fun R C => (Y R C - m) * (Y R C - m)) * (1 / 65536) := ⟨_, rfl⟩
  have hv0 : 0 ≤ v := by
    rw [hv]
    exact mul_nonneg (Finset.sum_nonneg fun R _ => Finset.sum_nonneg fun C _ => mul_self_nonneg _) (by norm_num)
  have hvar : Ideal.div (total fun R C => ((Y R C : EReal) - m) * ((Y R C : EReal) - m)) count = (v : EReal) := by
    simp only [← EReal.coe_sub, ← EReal.coe_mul]
    rw [count_eq, coe_total, Ideal.div_coe hn, ← EReal.coe_mul, ← hv]
  have hsq : Ideal.div (total fun R C => (Y R C : EReal) * (Y R C : EReal)) count - (m : EReal) * m = (v : EReal) := by
    simp only [← EReal.coe_mul]
    rw [count_eq, coe_total, Ideal.div_coe hn, ← EReal.coe_mul, ← EReal.coe_sub, hv, spread Y m hm]
  have hpos : 0 < v + e := by linarith
  have hd : Real.sqrt (v + e) ≠ 0 := (Real.sqrt_pos.mpr hpos).ne'
  have hnorm : normal (fun R C => (Y R C : EReal)) = fun R C => (((Y R C - m) * (1 / Real.sqrt (v + e)) : ℝ) : EReal) := by
    funext R C
    simp only [normal, hmean]
    rw [hvar, ht, ← EReal.coe_add, Ideal.sqrt_coe, if_neg (not_lt.mpr hpos.le), ← EReal.coe_sub, Ideal.div_coe hd, ← EReal.coe_mul]
  have hr : Ideal.rsqrt ((v : EReal) + e) = (((Real.sqrt (v + e))⁻¹ : ℝ) : EReal) := by
    rw [← EReal.coe_add, Ideal.rsqrt_coe, if_neg (not_lt.mpr hpos.le), if_neg hpos.ne']
  unfold late early
  rw [hnorm, hmean, hsq, ht, hr]
  simp only [taps, Fin.sum_univ_three, ← EReal.coe_mul, ← EReal.coe_add, ← EReal.coe_sub]
  refine congrArg _ ?_
  ring

/-- The gate: a number times one over one and the exponential of its negative is the number over that. -/
theorem gate_eq (t : EReal) : t * Ideal.div 1 (1 + Ideal.exp (0 - t)) = Ideal.div t (1 + Ideal.exp (-t)) := by
  rw [zero_sub]
  have h : 1 + Ideal.exp (-t) ≠ 0 := by
    have h0 : 0 ≤ Ideal.exp (-t) := by
      induction -t with
      | bot => exact le_rfl
      | top => exact le_top
      | coe r => rw [Ideal.exp_coe]; exact EReal.coe_nonneg.mpr (Real.exp_pos r).le
    exact (lt_of_lt_of_le zero_lt_one (le_add_of_nonneg_right h0)).ne'
  simp only [Ideal.div, if_neg h, one_mul]

/-! ## Sums over four quarters -/

/-- A sum over the rows is the sum over the upper half and the lower half. -/
theorem halves {M : Type} [AddCommMonoid M] (f : Fin 256 → M) :
    ∑ R, f R = (∑ r : Fin 128, f ⟨r.val, by omega⟩) + ∑ r : Fin 128, f ⟨128 + r.val, by omega⟩ := by
  show (∑ R : Fin (128 + 128), f R) = _
  exact Fin.sum_univ_add _

/-- The sum over an image is the sum over its four quarters. -/
theorem total_quarters {M : Type} [AddCommMonoid M] (y : Fin 256 → Fin 256 → M) :
    total y = ((∑ C : Fin 128, ∑ R : Fin 128, y ⟨R.val, by omega⟩ ⟨C.val, by omega⟩)
        + ∑ C : Fin 128, ∑ R : Fin 128, y ⟨R.val, by omega⟩ ⟨128 + C.val, by omega⟩)
      + ((∑ C : Fin 128, ∑ R : Fin 128, y ⟨128 + R.val, by omega⟩ ⟨C.val, by omega⟩)
        + ∑ C : Fin 128, ∑ R : Fin 128, y ⟨128 + R.val, by omega⟩ ⟨128 + C.val, by omega⟩) := by
  unfold total
  simp only [halves, Finset.sum_add_distrib]
  rw [Finset.sum_comm, Finset.sum_comm (f := fun (r r' : Fin 128) => y ⟨r.val, _⟩ ⟨128 + r'.val, _⟩),
    Finset.sum_comm (f := fun (r r' : Fin 128) => y ⟨128 + r.val, _⟩ ⟨r'.val, _⟩),
    Finset.sum_comm (f := fun (r r' : Fin 128) => y ⟨128 + r.val, _⟩ ⟨128 + r'.val, _⟩)]
  exact add_add_add_comm _ _ _ _

end Cert.Image
end
-- ==== Proof.KernelValue.lean ====
/-
  The kernel's arithmetic on exact numbers, read element by element.
-/
module

public import proofs.«01_k».proof.Proof.Views
public import proofs.«01_k».proof.Proof.Image

@[expose] public section

noncomputable section

namespace Cert.KernelIdeal.Halo

open Cert.KernelIdeal Cert.KernelIdeal.Gen
open Idealize.ShloMosaic
open Cert.Image

/-! ## Rows, columns and channels -/

/-- The channel of a position in the fused last axis. -/
def chan (l : ℕ) : Fin 64 := ⟨l % 64, Nat.mod_lt _ (by decide)⟩

/-- An element of the image is found by its shown row, its shown column and its channel. -/
theorem at_edge (x : Fin 256 → Fin 256 → Fin 64 → EReal) {A A' B B' l l' : ℕ} (hA : min (A - 1) 255 = min (A' - 1) 255)
    (hB : min (B - 1) 255 = min (B' - 1) 255) (hl : l % 64 = l' % 64) : x (edge A) (edge B) (chan l) = x (edge A') (edge B') (chan l') := by
  rw [show edge A = edge A' from Fin.ext hA, show edge B = edge B' from Fin.ext hB, show chan l = chan l' from Fin.ext hl]

/-! ## The padded image -/

section Padded

variable (a b : BitVec 1) (xb : S1x128x8192.Idx → EReal) (rb : S1x1x8192.Idx → EReal) (cb : S1x128x64.Idx → EReal) (qb : S1x1x64.Idx → EReal)

/-- The device's block of one image with its border of one around it. -/
def padOf : FVec Ideal S130x8320 .f32 :=
  k0_pay44 (F := Ideal) a b (k0_pay37 xb) (k0_pay38 rb) (k0_pay40 qb) (k0_pay41 b xb cb) (k0_pay42 b xb cb) (k0_pay43 xb)

/-- The blocks of one image that a device at row `px` and column `py` of the mesh computes from: its own, and the row, the
    column and the corner that have landed. -/
structure Shows (x : Fin 256 → Fin 256 → Fin 64 → EReal) (px py : ℕ) : Prop where
  own : ∀ (r : Fin 128) (l : Fin 8192), xb (ix3 0 r l) = x (edge (128 * px + r.val + 1)) (edge (128 * py + l.val / 64 + 1)) (chan l.val)
  row : ∀ l : Fin 8192, rb (ix3 0 0 l) = x (edge (129 - px)) (edge (128 * py + l.val / 64 + 1)) (chan l.val)
  col : ∀ (r : Fin 128) (l : Fin 64), cb (ix3 0 r l) = x (edge (128 * px + r.val + 1)) (edge (129 - py)) (chan l.val)
  cor : ∀ l : Fin 64, qb (ix3 0 0 l) = x (edge (129 - px)) (edge (129 - py)) (chan l.val)

variable {a b xb rb cb qb}

/-- The padded block is the whole padded image, seen from the device's corner. -/
theorem pad_apply {x : Fin 256 → Fin 256 → Fin 64 → EReal} {px py : ℕ} (h : Shows xb rb cb qb x px py)
    (hx : px = 0 ∧ a = 1#1 ∨ px = 1 ∧ a = 0#1) (hy : py = 0 ∧ b = 1#1 ∨ py = 1 ∧ b = 0#1) (R : Fin 130) (l : Fin 8320) :
    padOf a b xb rb cb qb (ix2 R l) = x (edge (128 * px + R.val)) (edge (128 * py + l.val / 64)) (chan l.val) := by
  have hR := R.isLt
  have hl := l.isLt
  rcases hx with ⟨rfl, rfl⟩ | ⟨rfl, rfl⟩ <;> rcases hy with ⟨rfl, rfl⟩ | ⟨rfl, rfl⟩ <;>
    pointwise [padOf, k0_pay44, k0_pay37, k0_pay38, k0_pay40, k0_pay41, k0_pay42, k0_pay43, k0_pay39] <;>
    simp only [Scalar.select, h.own, h.row, h.col, h.cor, BitVec.reduceEq, if_true, if_false] <;>
    split_ifs <;> refine at_edge x ?_ ?_ ?_ <;> omega

/-! ## The convolution of a block -/

variable (a b xb rb cb qb) in
/-- The convolution of the device's block of one image. -/
def convOf (kk : S3x3x64.Idx → EReal) : FVec Ideal S128x8192 .f32 :=
  addf (k0_pay45 (F := Ideal) a b (k0_pay15 kk) (k0_pay16 kk) (k0_pay17 kk) (k0_pay18 kk) (k0_pay20 (k0_pay19 kk)) (k0_pay21 (k0_pay13 kk)) (k0_pay22 (k0_pay13 kk))
      (k0_pay23 (k0_pay13 kk)) (k0_pay37 xb) (k0_pay38 rb) (k0_pay40 qb) (k0_pay41 b xb cb) (k0_pay42 b xb cb) (k0_pay43 xb))
    (k0_pay46 (F := Ideal) a b (k0_pay24 (k0_pay13 kk)) (k0_pay37 xb) (k0_pay38 rb) (k0_pay40 qb) (k0_pay41 b xb cb) (k0_pay42 b xb cb) (k0_pay43 xb))

/-- The convolution of the block is that of the whole image, seen from the device's corner. -/
theorem conv_apply {x : Fin 256 → Fin 256 → Fin 64 → EReal} {px py : ℕ} (h : Shows xb rb cb qb x px py)
    (hx : px = 0 ∧ a = 1#1 ∨ px = 1 ∧ a = 0#1) (hy : py = 0 ∧ b = 1#1 ∨ py = 1 ∧ b = 0#1) (kk : S3x3x64.Idx → EReal)
    (r : Fin 128) (l : Fin 8192) :
    convOf a b xb rb cb qb kk (ix2 r l)
      = taps (fun R C => x R C (chan l.val)) (fun i j => kk (ix3 i j (chan l.val))) (128 * px + r.val) (128 * py + l.val / 64) := by
  have pa := pad_apply h hx hy
  pointwise [convOf, k0_pay45, k0_pay46, k0_pay15, k0_pay16, k0_pay17, k0_pay18, k0_pay19, k0_pay20, k0_pay21, k0_pay22, k0_pay23, k0_pay24, k0_pay13]
  unfold taps
  repeat' refine congrArg₂ (· + ·) ?_ ?_
  all_goals
    refine congrArg₂ (· * ·) ((pa _ _).trans (at_edge x ?_ ?_ ?_)) rfl <;> dsimp only <;> omega

/-! ## From the convolution to what is stored -/

/-- The sum of the nine taps of a channel. -/
theorem tapsum_apply (kk : S3x3x64.Idx → EReal) (e : Fin 64) : k0_pay14 (F := Ideal) kk (ix1 e) = ∑ i, ∑ j, kk (ix3 i j e) := by
  pointwise [k0_pay14, k0_pay13]
  unfold Ideal.reduceAdd
  refine (Finset.sum_filter_eq_sum_of_fiber _ (fun p : Fin 3 × Fin 3 => (ix3 p.1 p.2 e : S3x3x64.Idx))
    (fun _ _ q => Prod.ext (congrFun q 0) (congrFun q 1)) (fun i => ?_) kk).trans (Fintype.sum_prod_type _)
  constructor
  · intro q
    refine ⟨(i 0, i 1), ?_⟩
    funext d
    match d with
    | ⟨0, _⟩ => rfl
    | ⟨1, _⟩ => rfl
    | ⟨2, _⟩ => exact Fin.ext (congrArg Fin.val (congrFun q 0)).symm
  · rintro ⟨p, rfl⟩
    funext d
    match d with
    | ⟨0, _⟩ => rfl

/-- A number through the gate, as the kernel computes it. -/
def gate (t : EReal) : EReal := t * Ideal.div 1 (1 + Ideal.exp (0 - t))

section Tail

variable (kk : S3x3x64.Idx → EReal) (ww : S64x64.Idx → EReal) (m s : S2x64.Idx → EReal) (conv : S128x8192.Idx → EReal)

/-- The normalized convolution of image `j` at row `r`, the column of position `l` and channel `e`. -/
def scaled (j : Fin 2) (r : Fin 128) (l : Fin 8192) (e : Fin 64) : EReal :=
  (conv (ix2 r ⟨l.val / 64 * 64 + e.val, by omega⟩) - m (ix2 j e) * k0_pay14 (F := Ideal) kk (ix1 e)) * s (ix2 j e)

/-- What is stored for the first image. -/
theorem tail0_apply (r : Fin 128) (l : Fin 8192) :
    k0_pay36 (F := Ideal) s (k0_pay14 kk) (k0_pay25 ww) (k0_pay26 xb) (shapeCast S128x128x64 conv shapeCasts_S128x8192_S128x128x64) (k0_pay35 m) (ix3 0 r l)
      = (∑ e : Fin 64, gate (scaled kk m s conv 0 r l e) * ww (ix2 e (chan l.val))) + xb (ix3 0 r l) := by
  pointwise [k0_pay36, k0_pay35, k0_pay25, k0_pay26, gate, scaled]
  refine congrArg (· + _) (Finset.sum_congr rfl fun e _ => ?_)
  have q : (r.val * 128 + l.val / 64) % 128 = l.val / 64 := by omega
  simp only [q]
  rfl

/-- What is stored for the second image. -/
theorem tail1_apply (c d : S128x8192.Idx → EReal) (r : Fin 128) (l : Fin 8192) :
    k0_pay47 (F := Ideal) m s (k0_pay14 kk) (k0_pay25 ww) (k0_pay37 xb) c d (ix3 0 r l)
      = (∑ e : Fin 64, gate (scaled kk m s (addf (F := Ideal) (φ := .f32) c d) 1 r l e) * ww (ix2 e (chan l.val))) + xb (ix3 0 r l) := by
  pointwise [k0_pay47, k0_pay25, k0_pay37, gate, scaled]
  refine congrArg (· + _) (Finset.sum_congr rfl fun e _ => ?_)
  have q : (r.val * 128 + l.val / 64) % 128 = l.val / 64 := by omega
  simp only [q]
  rfl

end Tail

end Padded

/-! ## The statistics -/

section Stats

variable (s0 s1 s2 s3 : S1x2x2x64.Idx → EReal)

/-- The four devices' statistics added up. -/
def four (d j : Fin 2) (e : Fin 64) : EReal := s0 (ix4 0 d j e) + s1 (ix4 0 d j e) + (s2 (ix4 0 d j e) + s3 (ix4 0 d j e))

/-- The mean a device computes. -/
theorem mean_apply (j : Fin 2) (e : Fin 64) : meanOf (F := Ideal) s0 s1 s2 s3 (ix2 j e) = Ideal.div (four s0 s1 s2 s3 0 j e) Image.count := by
  pointwise [meanOf, k0_pay9, k0_pay10, k0_pay11, four, Image.count]

/-- The reciprocal root a device computes: of the mean square less the squared mean. -/
theorem rstd_apply (j : Fin 2) (e : Fin 64) : rstdOf (F := Ideal) s0 s1 s2 s3 (ix2 j e)
    = Ideal.rsqrt (Ideal.div (four s0 s1 s2 s3 1 j e) Image.count
        - Ideal.div (four s0 s1 s2 s3 0 j e) Image.count * Ideal.div (four s0 s1 s2 s3 0 j e) Image.count + tiny) := by
  pointwise [rstdOf, k0_pay9, k0_pay10, k0_pay11, k0_pay12, four, Image.count, tiny]

variable (a b : BitVec 1) (kk : S3x3x64.Idx → EReal) (ww : S64x64.Idx → EReal) (xb : S1x128x8192.Idx → EReal) (rb : S1x1x8192.Idx → EReal)
  (cb : S1x128x64.Idx → EReal) (qb : S1x1x64.Idx → EReal)

/-- What is stored for the first image, from all that was loaded. -/
theorem outP0_apply (r : Fin 128) (l : Fin 8192) : outP0 (F := Ideal) a b s0 s1 s2 s3 kk ww xb rb cb qb (ix3 0 r l)
    = (∑ e : Fin 64, gate (scaled kk (meanOf (F := Ideal) s0 s1 s2 s3) (rstdOf (F := Ideal) s0 s1 s2 s3) (convOf a b xb rb cb qb kk) 0 r l e)
        * ww (ix2 e (chan l.val))) + xb (ix3 0 r l) :=
  tail0_apply kk ww _ _ (convOf a b xb rb cb qb kk) r l

/-- What is stored for the second image, from all that was loaded. -/
theorem outP1_apply (r : Fin 128) (l : Fin 8192) : outP1 (F := Ideal) a b s0 s1 s2 s3 kk ww xb rb cb qb (ix3 0 r l)
    = (∑ e : Fin 64, gate (scaled kk (meanOf (F := Ideal) s0 s1 s2 s3) (rstdOf (F := Ideal) s0 s1 s2 s3) (convOf a b xb rb cb qb kk) 1 r l e)
        * ww (ix2 e (chan l.val))) + xb (ix3 0 r l) :=
  tail1_apply kk ww _ _ _ _ r l

end Stats

/-! ## The whole image, put together from the devices' blocks -/

section Devices

variable (X : Dev nD → (cc0_stg0_0 : Ref sig .tc).ty.Contents (Elt Ideal))

/-- Image `b` put together from the blocks of the four devices. -/
def img (b : Fin 2) (R C : Fin 256) (ch : Fin 64) : EReal :=
  X ⟨2 * (R.val / 128) + C.val / 128, by show _ < 4; omega⟩ (ix3 b ⟨R.val % 128, by omega⟩ ⟨C.val % 128 * 64 + ch.val, by omega⟩)

/-- An element of the image is one of the block of the device that has its position. -/
theorem block_eq_img (b : Fin 2) {R C : Fin 256} {ch : Fin 64} (d : Dev nD) (r : Fin 128) (l : Fin 8192) (hd : 2 * (R.val / 128) + C.val / 128 = d.val)
    (hr : R.val % 128 = r.val) (hl : C.val % 128 * 64 + ch.val = l.val) : X d (ix3 b r l) = img X b R C ch := by
  unfold img
  rw [show (⟨2 * (R.val / 128) + C.val / 128, by show _ < 4; omega⟩ : Dev nD) = d from Fin.ext hd,
    show (⟨R.val % 128, by omega⟩ : Fin 128) = r from Fin.ext hr, show (⟨C.val % 128 * 64 + ch.val, by omega⟩ : Fin 8192) = l from Fin.ext hl]

/-- A device is in the upper half or in the lower. -/
theorem onx_cases (c : Dev nD) : c.val / 2 = 0 ∧ onx c = 1#1 ∨ c.val / 2 = 1 ∧ onx c = 0#1 := by revert c; decide
/-- A device is in the left half or in the right. -/
theorem ony_cases (c : Dev nD) : c.val % 2 = 0 ∧ ony c = 1#1 ∨ c.val % 2 = 1 ∧ ony c = 0#1 := by revert c; decide
/-- The first peer is in the other half of the rows. -/
theorem peer0_val (c : Dev nD) : (peer 0 c).val = c.val % 2 + 2 - 2 * (c.val / 2) := rfl
/-- The second peer is in the other half of the columns. -/
theorem peer1_val (c : Dev nD) : (peer 1 c).val = 2 * (c.val / 2) + 1 - c.val % 2 := rfl
/-- The third peer is the one diagonally opposite. -/
theorem peer2_val (c : Dev nD) : (peer 2 c).val = 3 - (2 * (c.val / 2) + c.val % 2) := rfl

/-- What a device computes image `b` from shows the whole image from its corner. -/
theorem shows_img (b : Fin 2) (c : Dev nD) :
    Shows (plane b (X c)) (plane b (rowV X (peer 0 c))) (plane b (colV X (peer 1 c))) (plane b (corV X (peer 2 c))) (img X b) (c.val / 2) (c.val % 2) := by
  have hc : c.val < 4 := c.isLt
  have h0 := peer0_val c
  have h1 := peer1_val c
  have h2 := peer2_val c
  refine ⟨fun r l => ?_, fun l => ?_, fun r l => ?_, fun l => ?_⟩
  · show X c (ix3 b r l) = _
    refine block_eq_img X b c r l ?_ ?_ ?_ <;> simp only [edge, chan] <;> omega
  · show k0_pay3 (F := Ideal) (onx (peer 0 c)) (k0_pay1 (X (peer 0 c))) (k0_pay2 (X (peer 0 c))) (ix3 b 0 l) = _
    pointwise [k0_pay3, k0_pay2, k0_pay1]
    rcases onx_cases (peer 0 c) with ⟨h, e⟩ | ⟨h, e⟩ <;> rw [e] <;> simp only [Scalar.select, BitVec.reduceEq, if_true, if_false] <;>
      refine block_eq_img X b (peer 0 c) _ _ ?_ ?_ ?_ <;> simp only [edge, chan] <;> omega
  · show k0_pay5 (F := Ideal) (ony (peer 1 c)) (k0_pay1 (X (peer 1 c))) (ix3 b r l) = _
    pointwise [k0_pay5, k0_pay4, k0_pay1]
    rcases ony_cases (peer 1 c) with ⟨h, e⟩ | ⟨h, e⟩ <;> rw [e] <;> simp only [Scalar.select, BitVec.reduceEq, if_true, if_false] <;>
      refine block_eq_img X b (peer 1 c) _ _ ?_ ?_ ?_ <;> simp only [edge, chan] <;> omega
  · show k0_pay6 (F := Ideal) (onx (peer 2 c)) (ony (peer 2 c)) (k0_pay1 (X (peer 2 c))) (ix3 b 0 l) = _
    pointwise [k0_pay6, k0_pay4, k0_pay1]
    rcases onx_cases (peer 2 c) with ⟨h, e⟩ | ⟨h, e⟩ <;> rw [e] <;> rcases ony_cases (peer 2 c) with ⟨h', e'⟩ | ⟨h', e'⟩ <;> rw [e'] <;>
      simp only [Scalar.select, BitVec.reduceEq, if_true, if_false] <;>
      refine block_eq_img X b (peer 2 c) _ _ ?_ ?_ ?_ <;> simp only [edge, chan] <;> omega

/-- One device's sums, of the elements and of their squares. -/
def part (X : Dev nD → (cc0_stg0_0 : Ref sig .tc).ty.Contents (Elt Ideal)) (f : EReal → EReal) (d : Dev nD) (b : Fin 2) (e : Fin 64) : EReal :=
  ∑ w : Fin 128, ∑ r : Fin 128, f (X d (ix3 b r ⟨w.val * 64 + e.val, by omega⟩))

/-- A device's own sums. -/
theorem own0 (d : Dev nD) (b : Fin 2) (e : Fin 64) : own (F := Ideal) X d 0 b e = part X id d b e := by
  show k0_pay7 (F := Ideal) (k0_pay1 (X d)) (ix4 0 0 b e) = _
  pointwise [k0_pay7, k0_pay1, part, id]

/-- A device's own sums of squares. -/
theorem own1 (d : Dev nD) (b : Fin 2) (e : Fin 64) : own (F := Ideal) X d 1 b e = part X (fun z => z * z) d b e := by
  show k0_pay8 (F := Ideal) (k0_pay1 (X d)) (ix4 0 0 b e) = _
  pointwise [k0_pay8, k0_pay1, part]

/-- The sum over the whole image is the sum of the four devices' sums, in whatever order a device adds them. -/
theorem total_img (f : EReal → EReal) (c : Dev nD) (b : Fin 2) (e : Fin 64) :
    part X f (who 0 c) b e + part X f (who 1 c) b e + (part X f (who 2 c) b e + part X f (who 3 c) b e) = total fun R C => f (img X b R C e) := by
  rw [total_quarters]
  have q (p p' : ℕ) (hp : p < 2) (hp' : p' < 2) : (∑ C : Fin 128, ∑ R : Fin 128, f (img X b ⟨128 * p + R.val, by omega⟩ ⟨128 * p' + C.val, by omega⟩ e))
      = part X f ⟨2 * p + p', by show _ < 4; omega⟩ b e := by
    refine Finset.sum_congr rfl fun C _ => Finset.sum_congr rfl fun R _ => congrArg f (block_eq_img X b _ _ _ ?_ ?_ ?_).symm <;> dsimp only <;> omega
  have q00 := q 0 0 (by omega) (by omega)
  have q01 := q 0 1 (by omega) (by omega)
  have q10 := q 1 0 (by omega) (by omega)
  have q11 := q 1 1 (by omega) (by omega)
  simp only [Nat.mul_zero, Nat.zero_add, Nat.mul_one] at q00 q01 q10 q11
  rw [q00, q01, q10, q11]
  have hw : ∀ c : Dev nD, (who 0 c = 0 ∧ who 1 c = 2 ∧ who 2 c = 1 ∧ who 3 c = 3) ∨ (who 0 c = 1 ∧ who 1 c = 3 ∧ who 2 c = 0 ∧ who 3 c = 2)
      ∨ (who 0 c = 2 ∧ who 1 c = 0 ∧ who 2 c = 3 ∧ who 3 c = 1) ∨ (who 0 c = 3 ∧ who 1 c = 1 ∧ who 2 c = 2 ∧ who 3 c = 0) := by decide
  have z (d : Dev nD) (n : ℕ) (hn : n < 4) (h : d.val = n) : part X f ⟨n, hn⟩ b e = part X f d b e := by subst h; rfl
  rw [z 0 0 _ rfl, z 1 1 _ rfl, z 2 2 _ rfl, z 3 3 _ rfl]
  rcases hw c with ⟨e0, e1, e2, e3⟩ | ⟨e0, e1, e2, e3⟩ | ⟨e0, e1, e2, e3⟩ | ⟨e0, e1, e2, e3⟩ <;> rw [e0, e1, e2, e3] <;> abel

/-- The four rows of statistics a device has, added up: the sums over the whole image. -/
theorem four_stats (c : Dev nD) (b : Fin 2) (e : Fin 64) :
    four (statRow 0 (statsV X c)) (statRow 1 (statsV X c)) (statRow 2 (statsV X c)) (statRow 3 (statsV X c)) 0 b e = total fun R C => img X b R C e := by
  refine Eq.trans ?_ (total_img X id c b e)
  simp only [← own0]
  rfl

/-- And the sums of squares over the whole image. -/
theorem four_squares (c : Dev nD) (b : Fin 2) (e : Fin 64) :
    four (statRow 0 (statsV X c)) (statRow 1 (statsV X c)) (statRow 2 (statsV X c)) (statRow 3 (statsV X c)) 1 b e
      = total fun R C => img X b R C e * img X b R C e := by
  refine Eq.trans ?_ (total_img X (fun z => z * z) c b e)
  simp only [← own1]
  rfl

variable (kk : S3x3x64.Idx → EReal) (ww : S64x64.Idx → EReal)

/-- What a device stores for image `b`, at row `r` of its block and position `l` of the fused axis. -/
theorem outV_apply (c : Dev nD) (b : Fin 2) (r : Fin 128) (l : Fin 8192) :
    outV (F := Ideal) X kk ww c (ix3 b r l)
      = (∑ e : Fin 64, gate (late (fun R C => img X b R C e) (fun i j => kk (ix3 i j e)) (128 * (c.val / 2) + r.val) (128 * (c.val % 2) + l.val / 64))
          * ww (ix2 e (chan l.val))) + X c (ix3 b r l) := by
  have key (j : Fin 2) (e : Fin 64) : scaled kk
      (meanOf (F := Ideal) (statRow 0 (statsV X c)) (statRow 1 (statsV X c)) (statRow 2 (statsV X c)) (statRow 3 (statsV X c)))
      (rstdOf (F := Ideal) (statRow 0 (statsV X c)) (statRow 1 (statsV X c)) (statRow 2 (statsV X c)) (statRow 3 (statsV X c)))
      (convOf (onx c) (ony c) (plane j (X c)) (plane j (rowV X (peer 0 c))) (plane j (colV X (peer 1 c))) (plane j (corV X (peer 2 c))) kk) j r l e
      = late (fun R C => img X j R C e) (fun i k => kk (ix3 i k e)) (128 * (c.val / 2) + r.val) (128 * (c.val % 2) + l.val / 64) := by
    unfold scaled late Image.mean
    rw [conv_apply (shows_img X j c) (onx_cases c) (ony_cases c), mean_apply, rstd_apply, four_stats, four_squares, tapsum_apply]
    have hch : chan (l.val / 64 * 64 + e.val) = e := Fin.ext (by show (l.val / 64 * 64 + e.val) % 64 = e.val; omega)
    have hdv : (l.val / 64 * 64 + e.val) / 64 = l.val / 64 := by omega
    simp only [hch, hdv]
  fin_cases b
  · refine (outP0_apply _ _ _ _ _ _ kk ww _ _ _ _ r l).trans ?_
    simp only [key]
    rfl
  · refine (outP1_apply _ _ _ _ _ _ kk ww _ _ _ _ r l).trans ?_
    simp only [key]
    rfl

end Devices

end Cert.KernelIdeal.Halo
end
-- ==== Proof.Arrays.lean ====
/-
  The arrays the kernel's region reads and leaves, in terms of the launch's arguments.
-/
module

public import proofs.«01_k».proof.Proof.Launch
public import proofs.«01_k».proof.Proof.KernelValue
public import Idealize.ShloMosaic.Lib.Pipeline.ValueKit

@[expose] public section

noncomputable section

namespace Cert.KernelIdeal.Halo

open Cert.KernelIdeal Cert.KernelIdeal.Gen
open Idealize.ShloMosaic
open Idealize.ShloMosaic.TcCoe
open Idealize.ShloMosaic.Pipeline (Dat Cfg Window)

variable (m : (ℓ : Loc nD τ sig) → Buf (Elt Ideal) ℓ)

/-- The region's first operand is the first argument with its last two axes fused. -/
theorem V_v1 (c : Dev nD) : V m c main_v1 = shapeCast S2x128x8192 (m ((c : Thread nD τ).loc main_arg0)) shapeCasts_S2x128x128x64_S2x128x8192 := by
  rfl

/-- The region reads the whole of its first operand. -/
theorem opX_eq (c : Dev nD) : opX m c = V m c main_v1 := by
  funext i
  refine congrArg (V m c main_v1) (funext fun a => Fin.ext ?_)
  fin_cases a <;> exact Window.rect_emb_val_of_index_zero (cfg0.win 0) t0_0 _ (by decide +kernel) i

/-- The taps the region reads are the second argument. -/
theorem opK_eq (c : Dev nD) : opK m c = m ((c : Thread nD τ).loc main_arg1) := by
  refine Eq.trans ?_ (V_main_arg1 m c)
  funext i
  refine congrArg (V m c main_arg1) (funext fun a => Fin.ext ?_)
  fin_cases a <;> exact Window.rect_emb_val_of_index_zero (cfg0.win 1) t0_0 _ (by decide +kernel) i

/-- The weights the region reads are the third argument. -/
theorem opW_eq (c : Dev nD) : opW m c = m ((c : Thread nD τ).loc main_arg2) := by
  refine Eq.trans ?_ (V_main_arg2 m c)
  funext i
  refine congrArg (V m c main_arg2) (funext fun a => Fin.ext ?_)
  fin_cases a <;> exact Window.rect_emb_val_of_index_zero (cfg0.win 2) t0_0 _ (by decide +kernel) i

/-- The region's result array is what the body left in its staging buffer. -/
theorem out_array (c : Dev nD) : (dat m c).arrAt 3 cfg0.N = outV (F := Ideal) (opX m) (opK m c) (opW m c) c := by
  refine (dat m c).arrAt_eq_of_after_last 3 t0_0 (by decide +kernel) _ fun j => ?_
  show outV (F := Ideal) (opX m) (opK m c) (opW m c) c _ = outV (F := Ideal) (opX m) (opK m c) (opW m c) c _
  refine congrArg _ (funext fun a => Fin.ext ?_)
  fin_cases a <;> rfl

/-- The second reshape splits the last axis of what the region left. -/
theorem split_last (W : Valuation τ sig (Elt Ideal)) : StableHlo.after hostOps1 W (Proc.devRef .tc main_v3)
    = shapeCast S2x128x128x64 (W (Proc.devRef .tc main_v2)) shapeCasts_S2x128x8192_S2x128x128x64 := by
  rfl

/-- The result of a device: what the region leaves, with its last axis split. -/
theorem W3_v3 (c : Dev nD) : W3 m c main_v3
    = shapeCast S2x128x128x64 (outV (F := Ideal) (opX m) (opK m c) (opW m c) c) shapeCasts_S2x128x8192_S2x128x128x64 :=
  (split_last (W2 m c)).trans (congrArg (fun v => shapeCast S2x128x128x64 v shapeCasts_S2x128x8192_S2x128x128x64) ((W2_v2 m c).trans (out_array m c)))

/-- An element of a device's result. -/
theorem result_apply (c : Dev nD) (b : Fin 2) (r w : Fin 128) (ch : Fin 64) :
    (W3 m c main_v3 : S2x128x128x64.Idx → EReal) (ix4 b r w ch)
      = outV (F := Ideal) (opX m) (opK m c) (opW m c) c (ix3 b r ⟨w.val * 64 + ch.val, by omega⟩) := by
  rw [W3_v3]
  pointwise []

/-- A device's block of the input, read at an element. -/
theorem opX_apply (c : Dev nD) (b : Fin 2) (r : Fin 128) (l : Fin 8192) :
    opX m c (ix3 b r l) = (m ((c : Thread nD τ).loc main_arg0) : S2x128x128x64.Idx → EReal) (ix4 b r ⟨l.val / 64, by omega⟩ (chan l.val)) := by
  rw [opX_eq, V_v1]
  pointwise []
  rfl

end Cert.KernelIdeal.Halo
end
-- ==== Proof.RefValue.lean ====
/-
  The reference's arithmetic on exact numbers, read element by element.
-/
module

public import proofs.«01_k».proof.Proof.Image
public import proofs.«01_k».proof.Proof.Gen.ReferenceIdeal.Run

@[expose] public section

noncomputable section

namespace Cert.ReferenceIdeal.Value

open Cert.ReferenceIdeal Cert.ReferenceIdeal.Gen
open Idealize.ShloMosaic
open Cert.Image

variable (V0 : Valuation τ sig (Elt Ideal))

/-- The input array. -/
def argX : S2x256x256x64.Idx → EReal := V0 (Proc.devRef .tc main_arg0)
/-- The taps. -/
def argK : S3x3x64.Idx → EReal := V0 (Proc.devRef .tc main_arg1)
/-- The weights. -/
def argW : S64x64.Idx → EReal := V0 (Proc.devRef .tc main_arg2)

/-- A sum over rows and columns, read at an image and a channel. -/
theorem reduce_apply (h : S2x256x256x64.ReducesTo [1, 2] S2x64) (v : S2x256x256x64.Idx → EReal) (z : EReal) (b : Fin 2) (e : Fin 64) :
    Ideal.hostReduceAdd h v z (ix2 b e) = z + total fun R C => v (ix4 b R C e) := by
  refine congrArg (z + ·) ?_
  refine (Finset.sum_filter_eq_sum_of_fiber _ (fun p : Fin 256 × Fin 256 => (ix4 b p.1 p.2 e : S2x256x256x64.Idx))
    (fun _ _ q => Prod.ext (congrFun q 1) (congrFun q 2)) (fun i => ?_) v).trans (Fintype.sum_prod_type _)
  constructor
  · intro q
    refine ⟨(i 1, i 2), ?_⟩
    funext d
    match d with
    | ⟨0, _⟩ => exact Fin.ext (congrArg Fin.val (congrFun q 0)).symm
    | ⟨1, _⟩ => rfl
    | ⟨2, _⟩ => rfl
    | ⟨3, _⟩ => exact Fin.ext (congrArg Fin.val (congrFun q 1)).symm
  · rintro ⟨p, rfl⟩
    funext d
    match d with
    | ⟨0, _⟩ => rfl
    | ⟨1, _⟩ => rfl

/-- The normalized array. -/
theorem normal_apply (b : Fin 2) (R C : Fin 256) (e : Fin 64) :
    res_main_v11 (F := Ideal) V0 (ix4 b R C e) = normal (fun R C => argX V0 (ix4 b R C e)) R C := by
  pointwise [res_main_v11, res_main_call0_v5, res_main_call0_v8]
  simp only [reduce_apply]
  pointwise []
  simp only [reduce_apply, zero_add]
  have hz : (FloatOps.sitofp (F := Ideal) .f32 (0#32 : BitVec 32) : EReal) = 0 := by
    show ((((0#32 : BitVec 32).toInt : ℤ) : ℝ) : EReal) = 0
    simp
  have hp : (0 : EReal) < Ideal.ofBits .f32 0x47800000#32 - FloatOps.sitofp (F := Ideal) .f32 (0#32 : BitVec 32) := by
    rw [hz, sub_zero]
    show 0 < Image.count
    rw [count_eq]
    exact EReal.coe_pos.mpr (by norm_num)
  rw [if_pos hp, hz, sub_zero]
  rfl

/-- The normalized array with its border repeated. -/
theorem padded_apply (b : Fin 2) (R C : Fin 258) (e : Fin 64) :
    res_main_v17 (F := Ideal) V0 (ix4 b R C e) = normal (fun R C => argX V0 (ix4 b R C e)) (edge R.val) (edge C.val) := by
  have hR := R.isLt
  have hC := C.isLt
  pointwise [res_main_v17, res_main_v14]
  simp only [normal_apply]
  split_ifs <;> refine congrArg₂ _ (Fin.ext ?_) (Fin.ext ?_) <;> simp only [edge] <;> omega

/-- The convolution of the normalized array. -/
theorem conv_apply (b : Fin 2) (R C : Fin 256) (e : Fin 64) :
    res_main_v81 (F := Ideal) V0 (ix4 b R C e) = early (fun R C => argX V0 (ix4 b R C e)) (fun i j => argK V0 (ix3 i j e)) R.val C.val := by
  pointwise [res_main_v81]
  simp only [padded_apply]
  simp only [early, taps, Nat.add_comm 1, Nat.add_comm 2]
  rfl

/-- The reference's result. -/
def res : S2x256x256x64.Idx → EReal :=
  addf (F := Ideal) (φ := .f32) (V0 (Proc.devRef .tc main_arg0)) (shapeCast S2x256x256x64 (Host.dotGeneral (F := Ideal) (φ₁ := .f32) (φ₂ := .f32) dot_S131072x64_S64x64_S131072x64_1_0_0_1_n_n none (shapeCast S131072x64 (Host.divf (res_main_v81 V0) (addf (broadcastInDim S2x256x256x64 ![] bcast_S_S2x256x256x64 (constant S_ .f32 0x3F800000#32)) (Host.exp (Host.negf (res_main_v81 V0))))) shapeCasts_S2x256x256x64_S131072x64) (V0 (Proc.devRef .tc main_arg2))) shapeCasts_S131072x64_S2x256x256x64)

/-- The reference's result, element by element: the input, and the product of the gated convolution with the weights. -/
theorem res_apply (b : Fin 2) (R C : Fin 256) (ch : Fin 64) :
    res V0 (ix4 b R C ch) = argX V0 (ix4 b R C ch) + ∑ e : Fin 64,
      Ideal.div (early (fun R C => argX V0 (ix4 b R C e)) (fun i j => argK V0 (ix3 i j e)) R.val C.val)
        (1 + Ideal.exp (-early (fun R C => argX V0 (ix4 b R C e)) (fun i j => argK V0 (ix3 i j e)) R.val C.val)) * argW V0 (ix2 e ch) := by
  pointwise [res]
  simp only [conv_apply]
  rfl

end Cert.ReferenceIdeal.Value
end
-- ==== Proof.Algebraic.lean ====
/-
  The kernel on exact numbers against the reference on exact numbers.
-/
module

public import proofs.«01_k».proof.Proof.Finite
public import proofs.«01_k».proof.Proof.Arrays
public import proofs.«01_k».proof.Proof.RefValue
public import Idealize.ShloMosaic.Lib.ReduceAll

@[expose] public section

noncomputable section

namespace Cert.Proof

open Idealize.ShloMosaic Idealize.ShloMosaic.StableHlo Idealize.SL.Sem Cert.KernelIdeal.Halo Cert.Image

/-! ## Finite inputs -/

/-- The number is a real one. -/
def Num (v : EReal) : Prop := ∃ r : ℝ, v = r

/-- An exact number whose size is below the top one is a real. -/
theorem real_of_below {x : EReal} (h : max x (-x) < ⊤) : Num x := by
  induction x with
  | bot => exact absurd h (by simp)
  | top => exact absurd h (by simp)
  | coe r => exact ⟨r, rfl⟩

/-- The word of positive infinity. -/
theorem infinity_word : (FloatOps.ofBits (F := Ideal) .f32 0x7F800000#32 : EReal) = ⊤ := by
  show Ideal.ofBits .f32 0x7F800000#32 = ⊤
  simp [Ideal.ofBits, Ideal.ieee]

variable (m : (ℓ : Loc Cert.KernelIdeal.nD Cert.KernelIdeal.τ Cert.KernelIdeal.sig) → Buf (Elt Ideal) ℓ)

/-- The precondition's comparison, read at an element. -/
theorem real_of_cmp {x y : EReal} (hy : y = ⊤) (h : Ideal.cmp .olt (max x (-x)) y = 1#1) : Num x := by
  subst hy
  refine real_of_below ?_
  by_contra hn
  have : Ideal.cmp .olt (max x (-x)) ⊤ = 0#1 := by
    show BitVec.ofBool (decide (_ < _)) = _
    rw [decide_eq_false hn]; rfl
  rw [this] at h
  exact absurd h (by decide)

/-- Every element of the input and of the taps is a real number on every device. -/
theorem inputs_real (h : Cert.Pre_KernelIdeal_finite_x_k_KernelIdeal m) (c : Dev Cert.KernelIdeal.nD) :
    (∀ i : Cert.KernelIdeal.S2x128x128x64.Idx, Num (m ((c.tc : Thread Cert.KernelIdeal.nD Cert.KernelIdeal.τ).loc Cert.KernelIdeal.main_arg0) i))
    ∧ ∀ i : Cert.KernelIdeal.S3x3x64.Idx, Num (m ((c.tc : Thread Cert.KernelIdeal.nD Cert.KernelIdeal.τ).loc Cert.KernelIdeal.main_arg1) i) := by
  have h0 := congrFun (h c) ix0
  obtain ⟨hx, hk⟩ := IntOp.andi_eq_one.1 h0
  haveI : Subsingleton Cert.Pre_finite_x_k_KernelIdeal.S_.Idx := ⟨fun a b => funext fun d => d.elim0⟩
  exact ⟨fun i => real_of_cmp infinity_word (Host.reduce_andi_all _ _ _ _ _ hx i), fun i => real_of_cmp infinity_word (Host.reduce_andi_all _ _ _ _ _ hk i)⟩

/-! ## The image from the blocks -/

variable (x : Cert.ReferenceIdeal.S2x256x256x64.Idx → EReal)

/-- The block of a device, read at an element: the image's element at the device's rows and columns. -/
theorem block_apply (c : Fin 4) (b : Fin 2) (r w : Fin 128) (ch : Fin 64) :
    (Layout.blockN ⟨4, ![2, 128, 128, 64]⟩ ⟨4, ![2, 256, 256, 64]⟩ (Layout.meshBlock [2, 2] ![[], [0], [1], []] c) x : Cert.KernelIdeal.S2x128x128x64.Idx → EReal) (ix4 b r w ch)
      = x (ix4 b ⟨128 * (c.val / 2) + r.val, by omega⟩ ⟨128 * (c.val % 2) + w.val, by omega⟩ ch) := by
  refine congrArg x (funext fun d => Fin.ext ?_)
  rw [Layout.TilesN.idx_val]
  fin_cases c <;> fin_cases d <;> simp [Layout.meshLin, Layout.meshCoord, Layout.cutSize, ix4]

/-- The kernel's image, put together from the devices' blocks, is the reference's input. -/
theorem img_eq (hx : ∀ c : Dev Cert.KernelIdeal.nD, m ((c.tc : Thread Cert.KernelIdeal.nD Cert.KernelIdeal.τ).loc Cert.KernelIdeal.main_arg0)
      = Layout.blockN ⟨4, ![2, 128, 128, 64]⟩ ⟨4, ![2, 256, 256, 64]⟩ (Layout.meshBlock [2, 2] ![[], [0], [1], []] c) x)
    (b : Fin 2) (R C : Fin 256) (ch : Fin 64) : img (opX m) b R C ch = x (ix4 b R C ch) := by
  unfold img
  rw [opX_apply, hx]
  refine (block_apply x _ b _ _ _).trans (congrArg x ?_)
  have e1 : (2 * (R.val / 128) + C.val / 128) / 2 = R.val / 128 := by omega
  have e2 : (2 * (R.val / 128) + C.val / 128) % 2 = C.val / 128 := by omega
  have key : ∀ {R' C' : Fin 256} {h' : Fin 64}, R' = R → C' = C → h' = ch → (ix4 b R' C' h' : Cert.ReferenceIdeal.S2x256x256x64.Idx) = ix4 b R C ch := by
    rintro _ _ _ rfl rfl rfl; rfl
  refine key (Fin.ext ?_) (Fin.ext ?_) (Fin.ext ?_)
  · show 128 * ((2 * (R.val / 128) + C.val / 128) / 2) + R.val % 128 = R.val
    omega
  · show 128 * ((2 * (R.val / 128) + C.val / 128) % 2) + (C.val % 128 * 64 + ch.val) / 64 = C.val
    omega
  · show (C.val % 128 * 64 + ch.val) % 64 = ch.val
    omega

variable (V : Valuation Cert.ReferenceIdeal.τ Cert.ReferenceIdeal.sig (Elt Ideal))

open Cert.ReferenceIdeal.Value in
/-- A device's result is its block of the reference's result. -/
theorem result_block (hpre : Cert.Pre_KernelIdeal_finite_x_k_KernelIdeal m)
    (hx : ∀ c : Dev Cert.KernelIdeal.nD, m ((c.tc : Thread Cert.KernelIdeal.nD Cert.KernelIdeal.τ).loc Cert.KernelIdeal.main_arg0)
      = Layout.blockN ⟨4, ![2, 128, 128, 64]⟩ ⟨4, ![2, 256, 256, 64]⟩ (Layout.meshBlock [2, 2] ![[], [0], [1], []] c) (argX V))
    (hk : ∀ c : Dev Cert.KernelIdeal.nD, m ((c.tc : Thread Cert.KernelIdeal.nD Cert.KernelIdeal.τ).loc Cert.KernelIdeal.main_arg1) = argK V)
    (hw : ∀ c : Dev Cert.KernelIdeal.nD, m ((c.tc : Thread Cert.KernelIdeal.nD Cert.KernelIdeal.τ).loc Cert.KernelIdeal.main_arg2) = argW V)
    (c : Dev Cert.KernelIdeal.nD) :
    (W3 m c (Proc.devRef .tc Cert.KernelIdeal.main_v3) : Cert.KernelIdeal.S2x128x128x64.Idx → EReal)
      = Layout.blockN ⟨4, ![2, 128, 128, 64]⟩ ⟨4, ![2, 256, 256, 64]⟩ (Layout.meshBlock [2, 2] ![[], [0], [1], []] c) (res V) := by
  funext i
  obtain ⟨b, r, w, ch, rfl⟩ : ∃ (b : Fin 2) (r w : Fin 128) (ch : Fin 64), i = ix4 b r w ch := ⟨i 0, i 1, i 2, i 3, eq_ix4 i⟩
  have hc : c.val < 4 := c.isLt
  have hX : ∀ (e : Fin 64), (fun R C => img (opX m) b R C e) = fun R C => argX V (ix4 b R C e) := fun e =>
    funext fun R => funext fun C => img_eq m (argX V) hx b R C e
  have hl : (w.val * 64 + ch.val) / 64 = w.val := by omega
  have hch : chan (w.val * 64 + ch.val) = ch := Fin.ext (by show (w.val * 64 + ch.val) % 64 = ch.val; omega)
  have hfx : ∀ (e : Fin 64) (R C : Fin 256), Num (argX V (ix4 b R C e)) := fun e R C => by
    rw [← img_eq m (argX V) hx b R C e]
    unfold img
    rw [opX_apply]
    exact (inputs_real m hpre _).1 _
  have hfk : ∀ (e : Fin 64) (p q : Fin 3), Num (argK V (ix3 p q e)) := fun e p q => by
    rw [← hk c]
    exact (inputs_real m hpre c).2 _
  rw [result_apply, outV_apply, block_apply, res_apply, add_comm]
  congr 1
  · rw [opX_apply, hx]
    refine (block_apply (argX V) c b r _ _).trans (congrArg (argX V) ?_)
    simp only [hl, hch]
  · refine Finset.sum_congr rfl fun e _ => ?_
    rw [hX e, hl, hch, opK_eq, opW_eq, hk c, hw c, late_eq_early (hfx e) (hfk e)]
    exact congrArg (· * _) (gate_eq _)

/-! ## The claim -/

/-- From finite inputs, every device of the kernel ends with its block of what the reference computes, and no argument
    of either program changes. -/
theorem algebraic : Cert.algebraic_KernelIdeal_ReferenceIdeal_pre_finite_x_k_KernelIdeal := fun m g m' g' hpre hargs =>
  ⟨Cert.ReferenceIdeal.Value.res (launchContents m' 0),
    (θ_run Cert.KernelIdeal.defs _ _).mono (fun _ h c =>
      ⟨(h.1 c).2.2.2.trans (result_block m (launchContents m' 0) hpre (fun c => (hargs c).1) (fun c => (hargs c).2.1) (fun c => (hargs c).2.2) c),
        (h.1 c).1.trans (W3_ne m c Cert.KernelIdeal.main_arg0 (by decide) (by decide) (by decide)),
        (h.1 c).2.1.trans (W3_ne m c Cert.KernelIdeal.main_arg1 (by decide) (by decide) (by decide)),
        (h.1 c).2.2.1.trans (W3_ne m c Cert.KernelIdeal.main_arg2 (by decide) (by decide) (by decide))⟩) (run_all m g),
    (θ_run Cert.ReferenceIdeal.defs _ _).mono (fun _ h => h 0) (Cert.ReferenceIdeal.Value.run (F := Ideal) m' g')⟩

end Cert.Proof

end
-- ==== Proof.lean ====
/-
  The claims, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    blockPre, wholePre, kernel_quiescent, ideal_quiescent, ideal_quiescent_finite, reference_quiescent,
    reference_quiescent_finite, trivial, algebraic⟩

end Cert.Proof

end
